-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S4096x512 : Shape := ⟨2, ![4096, 512]⟩
abbrev S8x512x256 : Shape := ⟨3, ![8, 512, 256]⟩
abbrev S7 : Shape := ⟨1, ![7]⟩
abbrev S_ : Shape := ⟨0, ![]⟩
abbrev S1x512x256 : Shape := ⟨3, ![1, 512, 256]⟩
abbrev S1 : Shape := ⟨1, ![1]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S4096x512, .f32⟩
  | .local _ .vmem, ⟨0, _⟩ => ⟨S512x256, .f32⟩
  | .local _ .vmem, ⟨1, _⟩ => ⟨S256x512, .f32⟩
  | .local _ .vmem, ⟨2, _⟩ => ⟨S4096x512, .f32⟩
  | .local _ .vmem, ⟨3, _⟩ => ⟨S8x512x256, .bf16⟩
  | .local _ .vmem, ⟨4, _⟩ => ⟨S256x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_31 : BitVec 32 := 4#32
  let v76 : BitVec 32 := Scalar.muli v19 c4_i32_31
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_32 : BitVec 32 := 2#32
  let v77 : BitVec 32 := Scalar.muli v46 c2_i32_32
  let v78 : BitVec 32 := Scalar.addi v76 v77
  let c1_i32_30 : BitVec 32 := 1#32
  let c0_i32_18 : BitVec 32 := 0#32
  let v48 : BitVec 1 := Scalar.cmpi .sgt v29 c0_i32_18
  let v49 : BitVec 32 := Scalar.extui v48
  let c0_i32_19 : BitVec 32 := 0#32
  let v50 : BitVec 1 := Scalar.cmpi .slt v29 c0_i32_19
  let v51 : BitVec 32 := Scalar.extui v50
  let v52 : BitVec 32 := Scalar.subi v49 v51
  let c2_i32_17 : BitVec 32 := 2#32
  let c0_i32_20 : BitVec 32 := 0#32
  let v53 : BitVec 1 := Scalar.cmpi .sgt c2_i32_17 c0_i32_20
  let v54 : BitVec 32 := Scalar.extui v53
  let c0_i32_21 : BitVec 32 := 0#32
  let v55 : BitVec 1 := Scalar.cmpi .slt c2_i32_17 c0_i32_21
  let v56 : BitVec 32 := Scalar.extui v55
  let v57 : BitVec 32 := Scalar.subi v54 v56
  let v58 : BitVec 1 := Scalar.cmpi .ne v52 v57
  let v59 : BitVec 32 := Scalar.remsi v29 c2_i32_17
  let c0_i32_22 : BitVec 32 := 0#32
  let v60 : BitVec 1 := Scalar.cmpi .ne v59 c0_i32_22
  let v61 : BitVec 1 := Scalar.andi v58 v60
  let v47 : BitVec 32 := Scalar.divsi v29 c2_i32_17
  let c1_i32_23 : BitVec 32 := 1#32
  let v62 : BitVec 32 := Scalar.subi v47 c1_i32_23
  let v63 : BitVec 32 := Scalar.select v61 v62 v47
  let v64 : BitVec 32 := Scalar.addi v63 v29
  let c2_i32_24 : BitVec 32 := 2#32
  let c0_i32_25 : BitVec 32 := 0#32
  let v65 : BitVec 1 := Scalar.cmpi .eq c2_i32_24 c0_i32_25
  let c1_i32_26 : BitVec 32 := 1#32
  let v66 : BitVec 32 := Scalar.select v65 c1_i32_26 c2_i32_24
  let v67 : BitVec 32 := Scalar.remsi v64 v66
  let c0_i32_28 : BitVec 32 := 0#32
  let v69 : BitVec 1 := Scalar.cmpi .slt v67 c0_i32_28
  let c0_i32_29 : BitVec 32 := 0#32
  let v70 : BitVec 1 := Scalar.cmpi .slt v66 c0_i32_29
  let v71 : BitVec 1 := Scalar.xori v69 v70
  let c0_i32_27 : BitVec 32 := 0#32
  let v68 : BitVec 1 := Scalar.cmpi .ne v67 c0_i32_27
  let v72 : BitVec 1 := Scalar.andi v71 v68
  let v73 : BitVec 32 := Scalar.addi v67 v66
  let v74 : BitVec 32 := Scalar.select v72 v73 v67
  let v75 : BitVec 32 := Scalar.subi c1_i32_30 v74
  let v79 : BitVec 32 := Scalar.addi v75 v46
  let c2_i32_33 : BitVec 32 := 2#32
  let c0_i32_34 : BitVec 32 := 0#32
  let v80 : BitVec 1 := Scalar.cmpi .eq c2_i32_33 c0_i32_34
  let c1_i32_35 : BitVec 32 := 1#32
  let v81 : BitVec 32 := Scalar.select v80 c1_i32_35 c2_i32_33
  let v82 : BitVec 32 := Scalar.remsi v79 v81
  let c0_i32_37 : BitVec 32 := 0#32
  let v84 : BitVec 1 := Scalar.cmpi .slt v82 c0_i32_37
  let c0_i32_38 : BitVec 32 := 0#32
  let v85 : BitVec 1 := Scalar.cmpi .slt v81 c0_i32_38
  let v86 : BitVec 1 := Scalar.xori v84 v85
  let c0_i32_36 : BitVec 32 := 0#32
  let v83 : BitVec 1 := Scalar.cmpi .ne v82 c0_i32_36
  let v87 : BitVec 1 := Scalar.andi v86 v83
  let v88 : BitVec 32 := Scalar.addi v82 v81
  let v89 : BitVec 32 := Scalar.select v87 v88 v82
  let v90 : BitVec 32 := Scalar.addi v78 v89
  let c1_i32_99 : BitVec 32 := 1#32
  let v193 : BitVec 32 := Scalar.muli v90 c1_i32_99
  let v194 : BitVec 32 := Scalar.addi c0_i32_100 v193
  v194.toNat
def k0_dev2 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_40 : BitVec 32 := 4#32
  let v92 : BitVec 32 := Scalar.muli v19 c4_i32_40
  let c1_i32_39 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v91 : BitVec 32 := Scalar.subi c1_i32_39 v46
  let c2_i32_41 : BitVec 32 := 2#32
  let v93 : BitVec 32 := Scalar.muli v91 c2_i32_41
  let v94 : BitVec 32 := Scalar.addi v92 v93
  let c0_i32_18 : BitVec 32 := 0#32
  let v48 : BitVec 1 := Scalar.cmpi .sgt v29 c0_i32_18
  let v49 : BitVec 32 := Scalar.extui v48
  let c0_i32_19 : BitVec 32 := 0#32
  let v50 : BitVec 1 := Scalar.cmpi .slt v29 c0_i32_19
  let v51 : BitVec 32 := Scalar.extui v50
  let v52 : BitVec 32 := Scalar.subi v49 v51
  let c2_i32_17 : BitVec 32 := 2#32
  let c0_i32_20 : BitVec 32 := 0#32
  let v53 : BitVec 1 := Scalar.cmpi .sgt c2_i32_17 c0_i32_20
  let v54 : BitVec 32 := Scalar.extui v53
  let c0_i32_21 : BitVec 32 := 0#32
  let v55 : BitVec 1 := Scalar.cmpi .slt c2_i32_17 c0_i32_21
  let v56 : BitVec 32 := Scalar.extui v55
  let v57 : BitVec 32 := Scalar.subi v54 v56
  let v58 : BitVec 1 := Scalar.cmpi .ne v52 v57
  let v59 : BitVec 32 := Scalar.remsi v29 c2_i32_17
  let c0_i32_22 : BitVec 32 := 0#32
  let v60 : BitVec 1 := Scalar.cmpi .ne v59 c0_i32_22
  let v61 : BitVec 1 := Scalar.andi v58 v60
  let v47 : BitVec 32 := Scalar.divsi v29 c2_i32_17
  let c1_i32_23 : BitVec 32 := 1#32
  let v62 : BitVec 32 := Scalar.subi v47 c1_i32_23
  let v63 : BitVec 32 := Scalar.select v61 v62 v47
  let v64 : BitVec 32 := Scalar.addi v63 v29
  let c2_i32_24 : BitVec 32 := 2#32
  let c0_i32_25 : BitVec 32 := 0#32
  let v65 : BitVec 1 := Scalar.cmpi .eq c2_i32_24 c0_i32_25
  let c1_i32_26 : BitVec 32 := 1#32
  let v66 : BitVec 32 := Scalar.select v65 c1_i32_26 c2_i32_24
  let v67 : BitVec 32 := Scalar.remsi v64 v66
  let c0_i32_28 : BitVec 32 := 0#32
  let v69 : BitVec 1 := Scalar.cmpi .slt v67 c0_i32_28
  let c0_i32_29 : BitVec 32 := 0#32
  let v70 : BitVec 1 := Scalar.cmpi .slt v66 c0_i32_29
  let v71 : BitVec 1 := Scalar.xori v69 v70
  let c0_i32_27 : BitVec 32 := 0#32
  let v68 : BitVec 1 := Scalar.cmpi .ne v67 c0_i32_27
  let v72 : BitVec 1 := Scalar.andi v71 v68
  let v73 : BitVec 32 := Scalar.addi v67 v66
  let v74 : BitVec 32 := Scalar.select v72 v73 v67
  let v95 : BitVec 32 := Scalar.addi v74 v91
  let c2_i32_42 : BitVec 32 := 2#32
  let c0_i32_43 : BitVec 32 := 0#32
  let v96 : BitVec 1 := Scalar.cmpi .eq c2_i32_42 c0_i32_43
  let c1_i32_44 : BitVec 32 := 1#32
  let v97 : BitVec 32 := Scalar.select v96 c1_i32_44 c2_i32_42
  let v98 : BitVec 32 := Scalar.remsi v95 v97
  let c0_i32_46 : BitVec 32 := 0#32
  let v100 : BitVec 1 := Scalar.cmpi .slt v98 c0_i32_46
  let c0_i32_47 : BitVec 32 := 0#32
  let v101 : BitVec 1 := Scalar.cmpi .slt v97 c0_i32_47
  let v102 : BitVec 1 := Scalar.xori v100 v101
  let c0_i32_45 : BitVec 32 := 0#32
  let v99 : BitVec 1 := Scalar.cmpi .ne v98 c0_i32_45
  let v103 : BitVec 1 := Scalar.andi v102 v99
  let v104 : BitVec 32 := Scalar.addi v98 v97
  let v105 : BitVec 32 := Scalar.select v103 v104 v98
  let v106 : BitVec 32 := Scalar.addi v94 v105
  let c1_i32_102 : BitVec 32 := 1#32
  let v195 : BitVec 32 := Scalar.muli v106 c1_i32_102
  let v196 : BitVec 32 := Scalar.addi c0_i32_103 v195
  v196.toNat
def k0_dev3 (d0 : Dev nD) : Nat :=
  let c0_i32_106 : BitVec 32 := 0#32
  let c1_i32_48 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v107 : BitVec 32 := Scalar.subi c1_i32_48 v19
  let c4_i32_49 : BitVec 32 := 4#32
  let v108 : BitVec 32 := Scalar.muli v107 c4_i32_49
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_50 : BitVec 32 := 2#32
  let v109 : BitVec 32 := Scalar.muli v46 c2_i32_50
  let v110 : BitVec 32 := Scalar.addi v108 v109
  let c0_i32_18 : BitVec 32 := 0#32
  let v48 : BitVec 1 := Scalar.cmpi .sgt v29 c0_i32_18
  let v49 : BitVec 32 := Scalar.extui v48
  let c0_i32_19 : BitVec 32 := 0#32
  let v50 : BitVec 1 := Scalar.cmpi .slt v29 c0_i32_19
  let v51 : BitVec 32 := Scalar.extui v50
  let v52 : BitVec 32 := Scalar.subi v49 v51
  let c2_i32_17 : BitVec 32 := 2#32
  let c0_i32_20 : BitVec 32 := 0#32
  let v53 : BitVec 1 := Scalar.cmpi .sgt c2_i32_17 c0_i32_20
  let v54 : BitVec 32 := Scalar.extui v53
  let c0_i32_21 : BitVec 32 := 0#32
  let v55 : BitVec 1 := Scalar.cmpi .slt c2_i32_17 c0_i32_21
  let v56 : BitVec 32 := Scalar.extui v55
  let v57 : BitVec 32 := Scalar.subi v54 v56
  let v58 : BitVec 1 := Scalar.cmpi .ne v52 v57
  let v59 : BitVec 32 := Scalar.remsi v29 c2_i32_17
  let c0_i32_22 : BitVec 32 := 0#32
  let v60 : BitVec 1 := Scalar.cmpi .ne v59 c0_i32_22
  let v61 : BitVec 1 := Scalar.andi v58 v60
  let v47 : BitVec 32 := Scalar.divsi v29 c2_i32_17
  let c1_i32_23 : BitVec 32 := 1#32
  let v62 : BitVec 32 := Scalar.subi v47 c1_i32_23
  let v63 : BitVec 32 := Scalar.select v61 v62 v47
  let v64 : BitVec 32 := Scalar.addi v63 v29
  let c2_i32_24 : BitVec 32 := 2#32
  let c0_i32_25 : BitVec 32 := 0#32
  let v65 : BitVec 1 := Scalar.cmpi .eq c2_i32_24 c0_i32_25
  let c1_i32_26 : BitVec 32 := 1#32
  let v66 : BitVec 32 := Scalar.select v65 c1_i32_26 c2_i32_24
  let v67 : BitVec 32 := Scalar.remsi v64 v66
  let c0_i32_28 : BitVec 32 := 0#32
  let v69 : BitVec 1 := Scalar.cmpi .slt v67 c0_i32_28
  let c0_i32_29 : BitVec 32 := 0#32
  let v70 : BitVec 1 := Scalar.cmpi .slt v66 c0_i32_29
  let v71 : BitVec 1 := Scalar.xori v69 v70
  let c0_i32_27 : BitVec 32 := 0#32
  let v68 : BitVec 1 := Scalar.cmpi .ne v67 c0_i32_27
  let v72 : BitVec 1 := Scalar.andi v71 v68
  let v73 : BitVec 32 := Scalar.addi v67 v66
  let v74 : BitVec 32 := Scalar.select v72 v73 v67
  let v111 : BitVec 32 := Scalar.addi v74 v46
  let c2_i32_51 : BitVec 32 := 2#32
  let c0_i32_52 : BitVec 32 := 0#32
  let v112 : BitVec 1 := Scalar.cmpi .eq c2_i32_51 c0_i32_52
  let c1_i32_53 : BitVec 32 := 1#32
  let v113 : BitVec 32 := Scalar.select v112 c1_i32_53 c2_i32_51
  let v114 : BitVec 32 := Scalar.remsi v111 v113
  let c0_i32_55 : BitVec 32 := 0#32
  let v116 : BitVec 1 := Scalar.cmpi .slt v114 c0_i32_55
  let c0_i32_56 : BitVec 32 := 0#32
  let v117 : BitVec 1 := Scalar.cmpi .slt v113 c0_i32_56
  let v118 : BitVec 1 := Scalar.xori v116 v117
  let c0_i32_54 : BitVec 32 := 0#32
  let v115 : BitVec 1 := Scalar.cmpi .ne v114 c0_i32_54
  let v119 : BitVec 1 := Scalar.andi v118 v115
  let v120 : BitVec 32 := Scalar.addi v114 v113
  let v121 : BitVec 32 := Scalar.select v119 v120 v114
  let v122 : BitVec 32 := Scalar.addi v110 v121
  let c1_i32_105 : BitVec 32 := 1#32
  let v197 : BitVec 32 := Scalar.muli v122 c1_i32_105
  let v198 : BitVec 32 := Scalar.addi c0_i32_106 v197
  v198.toNat
def k0_dev4 (d0 : Dev nD) : Nat :=
  let c0_i32_109 : BitVec 32 := 0#32
  let c1_i32_59 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v125 : BitVec 32 := Scalar.subi c1_i32_59 v19
  let c4_i32_60 : BitVec 32 := 4#32
  let v126 : BitVec 32 := Scalar.muli v125 c4_i32_60
  let c1_i32_58 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v124 : BitVec 32 := Scalar.subi c1_i32_58 v46
  let c2_i32_61 : BitVec 32 := 2#32
  let v127 : BitVec 32 := Scalar.muli v124 c2_i32_61
  let v128 : BitVec 32 := Scalar.addi v126 v127
  let c1_i32_57 : BitVec 32 := 1#32
  let c0_i32_18 : BitVec 32 := 0#32
  let v48 : BitVec 1 := Scalar.cmpi .sgt v29 c0_i32_18
  let v49 : BitVec 32 := Scalar.extui v48
  let c0_i32_19 : BitVec 32 := 0#32
  let v50 : BitVec 1 := Scalar.cmpi .slt v29 c0_i32_19
  let v51 : BitVec 32 := Scalar.extui v50
  let v52 : BitVec 32 := Scalar.subi v49 v51
  let c2_i32_17 : BitVec 32 := 2#32
  let c0_i32_20 : BitVec 32 := 0#32
  let v53 : BitVec 1 := Scalar.cmpi .sgt c2_i32_17 c0_i32_20
  let v54 : BitVec 32 := Scalar.extui v53
  let c0_i32_21 : BitVec 32 := 0#32
  let v55 : BitVec 1 := Scalar.cmpi .slt c2_i32_17 c0_i32_21
  let v56 : BitVec 32 := Scalar.extui v55
  let v57 : BitVec 32 := Scalar.subi v54 v56
  let v58 : BitVec 1 := Scalar.cmpi .ne v52 v57
  let v59 : BitVec 32 := Scalar.remsi v29 c2_i32_17
  let c0_i32_22 : BitVec 32 := 0#32
  let v60 : BitVec 1 := Scalar.cmpi .ne v59 c0_i32_22
  let v61 : BitVec 1 := Scalar.andi v58 v60
  let v47 : BitVec 32 := Scalar.divsi v29 c2_i32_17
  let c1_i32_23 : BitVec 32 := 1#32
  let v62 : BitVec 32 := Scalar.subi v47 c1_i32_23
  let v63 : BitVec 32 := Scalar.select v61 v62 v47
  let v64 : BitVec 32 := Scalar.addi v63 v29
  let c2_i32_24 : BitVec 32 := 2#32
  let c0_i32_25 : BitVec 32 := 0#32
  let v65 : BitVec 1 := Scalar.cmpi .eq c2_i32_24 c0_i32_25
  let c1_i32_26 : BitVec 32 := 1#32
  let v66 : BitVec 32 := Scalar.select v65 c1_i32_26 c2_i32_24
  let v67 : BitVec 32 := Scalar.remsi v64 v66
  let c0_i32_28 : BitVec 32 := 0#32
  let v69 : BitVec 1 := Scalar.cmpi .slt v67 c0_i32_28
  let c0_i32_29 : BitVec 32 := 0#32
  let v70 : BitVec 1 := Scalar.cmpi .slt v66 c0_i32_29
  let v71 : BitVec 1 := Scalar.xori v69 v70
  let c0_i32_27 : BitVec 32 := 0#32
  let v68 : BitVec 1 := Scalar.cmpi .ne v67 c0_i32_27
  let v72 : BitVec 1 := Scalar.andi v71 v68
  let v73 : BitVec 32 := Scalar.addi v67 v66
  let v74 : BitVec 32 := Scalar.select v72 v73 v67
  let v123 : BitVec 32 := Scalar.subi c1_i32_57 v74
  let v129 : BitVec 32 := Scalar.addi v123 v124
  let c2_i32_62 : BitVec 32 := 2#32
  let c0_i32_63 : BitVec 32 := 0#32
  let v130 : BitVec 1 := Scalar.cmpi .eq c2_i32_62 c0_i32_63
  let c1_i32_64 : BitVec 32 := 1#32
  let v131 : BitVec 32 := Scalar.select v130 c1_i32_64 c2_i32_62
  let v132 : BitVec 32 := Scalar.remsi v129 v131
  let c0_i32_66 : BitVec 32 := 0#32
  let v134 : BitVec 1 := Scalar.cmpi .slt v132 c0_i32_66
  let c0_i32_67 : BitVec 32 := 0#32
  let v135 : BitVec 1 := Scalar.cmpi .slt v131 c0_i32_67
  let v136 : BitVec 1 := Scalar.xori v134 v135
  let c0_i32_65 : BitVec 32 := 0#32
  let v133 : BitVec 1 := Scalar.cmpi .ne v132 c0_i32_65
  let v137 : BitVec 1 := Scalar.andi v136 v133
  let v138 : BitVec 32 := Scalar.addi v132 v131
  let v139 : BitVec 32 := Scalar.select v137 v138 v132
  let v140 : BitVec 32 := Scalar.addi v128 v139
  let c1_i32_108 : BitVec 32 := 1#32
  let v199 : BitVec 32 := Scalar.muli v140 c1_i32_108
  let v200 : BitVec 32 := Scalar.addi c0_i32_109 v199
  v200.toNat
def k0_dev5 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_31 : BitVec 32 := 4#32
  let v76 : BitVec 32 := Scalar.muli v19 c4_i32_31
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_32 : BitVec 32 := 2#32
  let v77 : BitVec 32 := Scalar.muli v46 c2_i32_32
  let v78 : BitVec 32 := Scalar.addi v76 v77
  let c1_i32_30 : BitVec 32 := 1#32
  let c0_i32_18 : BitVec 32 := 0#32
  let v48 : BitVec 1 := Scalar.cmpi .sgt v29 c0_i32_18
  let v49 : BitVec 32 := Scalar.extui v48
  let c0_i32_19 : BitVec 32 := 0#32
  let v50 : BitVec 1 := Scalar.cmpi .slt v29 c0_i32_19
  let v51 : BitVec 32 := Scalar.extui v50
  let v52 : BitVec 32 := Scalar.subi v49 v51
  let c2_i32_17 : BitVec 32 := 2#32
  let c0_i32_20 : BitVec 32 := 0#32
  let v53 : BitVec 1 := Scalar.cmpi .sgt c2_i32_17 c0_i32_20
  let v54 : BitVec 32 := Scalar.extui v53
  let c0_i32_21 : BitVec 32 := 0#32
  let v55 : BitVec 1 := Scalar.cmpi .slt c2_i32_17 c0_i32_21
  let v56 : BitVec 32 := Scalar.extui v55
  let v57 : BitVec 32 := Scalar.subi v54 v56
  let v58 : BitVec 1 := Scalar.cmpi .ne v52 v57
  let v59 : BitVec 32 := Scalar.remsi v29 c2_i32_17
  let c0_i32_22 : BitVec 32 := 0#32
  let v60 : BitVec 1 := Scalar.cmpi .ne v59 c0_i32_22
  let v61 : BitVec 1 := Scalar.andi v58 v60
  let v47 : BitVec 32 := Scalar.divsi v29 c2_i32_17
  let c1_i32_23 : BitVec 32 := 1#32
  let v62 : BitVec 32 := Scalar.subi v47 c1_i32_23
  let v63 : BitVec 32 := Scalar.select v61 v62 v47
  let v64 : BitVec 32 := Scalar.addi v63 v29
  let c2_i32_24 : BitVec 32 := 2#32
  let c0_i32_25 : BitVec 32 := 0#32
  let v65 : BitVec 1 := Scalar.cmpi .eq c2_i32_24 c0_i32_25
  let c1_i32_26 : BitVec 32 := 1#32
  let v66 : BitVec 32 := Scalar.select v65 c1_i32_26 c2_i32_24
  let v67 : BitVec 32 := Scalar.remsi v64 v66
  let c0_i32_28 : BitVec 32 := 0#32
  let v69 : BitVec 1 := Scalar.cmpi .slt v67 c0_i32_28
  let c0_i32_29 : BitVec 32 := 0#32
  let v70 : BitVec 1 := Scalar.cmpi .slt v66 c0_i32_29
  let v71 : BitVec 1 := Scalar.xori v69 v70
  let c0_i32_27 : BitVec 32 := 0#32
  let v68 : BitVec 1 := Scalar.cmpi .ne v67 c0_i32_27
  let v72 : BitVec 1 := Scalar.andi v71 v68
  let v73 : BitVec 32 := Scalar.addi v67 v66
  let v74 : BitVec 32 := Scalar.select v72 v73 v67
  let v75 : BitVec 32 := Scalar.subi c1_i32_30 v74
  let v79 : BitVec 32 := Scalar.addi v75 v46
  let c2_i32_33 : BitVec 32 := 2#32
  let c0_i32_34 : BitVec 32 := 0#32
  let v80 : BitVec 1 := Scalar.cmpi .eq c2_i32_33 c0_i32_34
  let c1_i32_35 : BitVec 32 := 1#32
  let v81 : BitVec 32 := Scalar.select v80 c1_i32_35 c2_i32_33
  let v82 : BitVec 32 := Scalar.remsi v79 v81
  let c0_i32_37 : BitVec 32 := 0#32
  let v84 : BitVec 1 := Scalar.cmpi .slt v82 c0_i32_37
  let c0_i32_38 : BitVec 32 := 0#32
  let v85 : BitVec 1 := Scalar.cmpi .slt v81 c0_i32_38
  let v86 : BitVec 1 := Scalar.xori v84 v85
  let c0_i32_36 : BitVec 32 := 0#32
  let v83 : BitVec 1 := Scalar.cmpi .ne v82 c0_i32_36
  let v87 : BitVec 1 := Scalar.andi v86 v83
  let v88 : BitVec 32 := Scalar.addi v82 v81
  let v89 : BitVec 32 := Scalar.select v87 v88 v82
  let v90 : BitVec 32 := Scalar.addi v78 v89
  let c1_i32_123 : BitVec 32 := 1#32
  let v213 : BitVec 32 := Scalar.muli v90 c1_i32_123
  let v214 : BitVec 32 := Scalar.addi c0_i32_124 v213
  v214.toNat
def k0_dev6 (d0 : Dev nD) : Nat :=
  let c0_i32_134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_40 : BitVec 32 := 4#32
  let v92 : BitVec 32 := Scalar.muli v19 c4_i32_40
  let c1_i32_39 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v91 : BitVec 32 := Scalar.subi c1_i32_39 v46
  let c2_i32_41 : BitVec 32 := 2#32
  let v93 : BitVec 32 := Scalar.muli v91 c2_i32_41
  let v94 : BitVec 32 := Scalar.addi v92 v93
  let c0_i32_18 : BitVec 32 := 0#32
  let v48 : BitVec 1 := Scalar.cmpi .sgt v29 c0_i32_18
  let v49 : BitVec 32 := Scalar.extui v48
  let c0_i32_19 : BitVec 32 := 0#32
  let v50 : BitVec 1 := Scalar.cmpi .slt v29 c0_i32_19
  let v51 : BitVec 32 := Scalar.extui v50
  let v52 : BitVec 32 := Scalar.subi v49 v51
  let c2_i32_17 : BitVec 32 := 2#32
  let c0_i32_20 : BitVec 32 := 0#32
  let v53 : BitVec 1 := Scalar.cmpi .sgt c2_i32_17 c0_i32_20
  let v54 : BitVec 32 := Scalar.extui v53
  let c0_i32_21 : BitVec 32 := 0#32
  let v55 : BitVec 1 := Scalar.cmpi .slt c2_i32_17 c0_i32_21
  let v56 : BitVec 32 := Scalar.extui v55
  let v57 : BitVec 32 := Scalar.subi v54 v56
  let v58 : BitVec 1 := Scalar.cmpi .ne v52 v57
  let v59 : BitVec 32 := Scalar.remsi v29 c2_i32_17
  let c0_i32_22 : BitVec 32 := 0#32
  let v60 : BitVec 1 := Scalar.cmpi .ne v59 c0_i32_22
  let v61 : BitVec 1 := Scalar.andi v58 v60
  let v47 : BitVec 32 := Scalar.divsi v29 c2_i32_17
  let c1_i32_23 : BitVec 32 := 1#32
  let v62 : BitVec 32 := Scalar.subi v47 c1_i32_23
  let v63 : BitVec 32 := Scalar.select v61 v62 v47
  let v64 : BitVec 32 := Scalar.addi v63 v29
  let c2_i32_24 : BitVec 32 := 2#32
  let c0_i32_25 : BitVec 32 := 0#32
  let v65 : BitVec 1 := Scalar.cmpi .eq c2_i32_24 c0_i32_25
  let c1_i32_26 : BitVec 32 := 1#32
  let v66 : BitVec 32 := Scalar.select v65 c1_i32_26 c2_i32_24
  let v67 : BitVec 32 := Scalar.remsi v64 v66
  let c0_i32_28 : BitVec 32 := 0#32
  let v69 : BitVec 1 := Scalar.cmpi .slt v67 c0_i32_28
  let c0_i32_29 : BitVec 32 := 0#32
  let v70 : BitVec 1 := Scalar.cmpi .slt v66 c0_i32_29
  let v71 : BitVec 1 := Scalar.xori v69 v70
  let c0_i32_27 : BitVec 32 := 0#32
  let v68 : BitVec 1 := Scalar.cmpi .ne v67 c0_i32_27
  let v72 : BitVec 1 := Scalar.andi v71 v68
  let v73 : BitVec 32 := Scalar.addi v67 v66
  let v74 : BitVec 32 := Scalar.select v72 v73 v67
  let v95 : BitVec 32 := Scalar.addi v74 v91
  let c2_i32_42 : BitVec 32 := 2#32
  let c0_i32_43 : BitVec 32 := 0#32
  let v96 : BitVec 1 := Scalar.cmpi .eq c2_i32_42 c0_i32_43
  let c1_i32_44 : BitVec 32 := 1#32
  let v97 : BitVec 32 := Scalar.select v96 c1_i32_44 c2_i32_42
  let v98 : BitVec 32 := Scalar.remsi v95 v97
  let c0_i32_46 : BitVec 32 := 0#32
  let v100 : BitVec 1 := Scalar.cmpi .slt v98 c0_i32_46
  let c0_i32_47 : BitVec 32 := 0#32
  let v101 : BitVec 1 := Scalar.cmpi .slt v97 c0_i32_47
  let v102 : BitVec 1 := Scalar.xori v100 v101
  let c0_i32_45 : BitVec 32 := 0#32
  let v99 : BitVec 1 := Scalar.cmpi .ne v98 c0_i32_45
  let v103 : BitVec 1 := Scalar.andi v102 v99
  let v104 : BitVec 32 := Scalar.addi v98 v97
  let v105 : BitVec 32 := Scalar.select v103 v104 v98
  let v106 : BitVec 32 := Scalar.addi v94 v105
  let c1_i32_133 : BitVec 32 := 1#32
  let v223 : BitVec 32 := Scalar.muli v106 c1_i32_133
  let v224 : BitVec 32 := Scalar.addi c0_i32_134 v223
  v224.toNat
def k0_dev7 (d0 : Dev nD) : Nat :=
  let c0_i32_143 : BitVec 32 := 0#32
  let c1_i32_48 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v107 : BitVec 32 := Scalar.subi c1_i32_48 v19
  let c4_i32_49 : BitVec 32 := 4#32
  let v108 : BitVec 32 := Scalar.muli v107 c4_i32_49
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_50 : BitVec 32 := 2#32
  let v109 : BitVec 32 := Scalar.muli v46 c2_i32_50
  let v110 : BitVec 32 := Scalar.addi v108 v109
  let c0_i32_18 : BitVec 32 := 0#32
  let v48 : BitVec 1 := Scalar.cmpi .sgt v29 c0_i32_18
  let v49 : BitVec 32 := Scalar.extui v48
  let c0_i32_19 : BitVec 32 := 0#32
  let v50 : BitVec 1 := Scalar.cmpi .slt v29 c0_i32_19
  let v51 : BitVec 32 := Scalar.extui v50
  let v52 : BitVec 32 := Scalar.subi v49 v51
  let c2_i32_17 : BitVec 32 := 2#32
  let c0_i32_20 : BitVec 32 := 0#32
  let v53 : BitVec 1 := Scalar.cmpi .sgt c2_i32_17 c0_i32_20
  let v54 : BitVec 32 := Scalar.extui v53
  let c0_i32_21 : BitVec 32 := 0#32
  let v55 : BitVec 1 := Scalar.cmpi .slt c2_i32_17 c0_i32_21
  let v56 : BitVec 32 := Scalar.extui v55
  let v57 : BitVec 32 := Scalar.subi v54 v56
  let v58 : BitVec 1 := Scalar.cmpi .ne v52 v57
  let v59 : BitVec 32 := Scalar.remsi v29 c2_i32_17
  let c0_i32_22 : BitVec 32 := 0#32
  let v60 : BitVec 1 := Scalar.cmpi .ne v59 c0_i32_22
  let v61 : BitVec 1 := Scalar.andi v58 v60
  let v47 : BitVec 32 := Scalar.divsi v29 c2_i32_17
  let c1_i32_23 : BitVec 32 := 1#32
  let v62 : BitVec 32 := Scalar.subi v47 c1_i32_23
  let v63 : BitVec 32 := Scalar.select v61 v62 v47
  let v64 : BitVec 32 := Scalar.addi v63 v29
  let c2_i32_24 : BitVec 32 := 2#32
  let c0_i32_25 : BitVec 32 := 0#32
  let v65 : BitVec 1 := Scalar.cmpi .eq c2_i32_24 c0_i32_25
  let c1_i32_26 : BitVec 32 := 1#32
  let v66 : BitVec 32 := Scalar.select v65 c1_i32_26 c2_i32_24
  let v67 : BitVec 32 := Scalar.remsi v64 v66
  let c0_i32_28 : BitVec 32 := 0#32
  let v69 : BitVec 1 := Scalar.cmpi .slt v67 c0_i32_28
  let c0_i32_29 : BitVec 32 := 0#32
  let v70 : BitVec 1 := Scalar.cmpi .slt v66 c0_i32_29
  let v71 : BitVec 1 := Scalar.xori v69 v70
  let c0_i32_27 : BitVec 32 := 0#32
  let v68 : BitVec 1 := Scalar.cmpi .ne v67 c0_i32_27
  let v72 : BitVec 1 := Scalar.andi v71 v68
  let v73 : BitVec 32 := Scalar.addi v67 v66
  let v74 : BitVec 32 := Scalar.select v72 v73 v67
  let v111 : BitVec 32 := Scalar.addi v74 v46
  let c2_i32_51 : BitVec 32 := 2#32
  let c0_i32_52 : BitVec 32 := 0#32
  let v112 : BitVec 1 := Scalar.cmpi .eq c2_i32_51 c0_i32_52
  let c1_i32_53 : BitVec 32 := 1#32
  let v113 : BitVec 32 := Scalar.select v112 c1_i32_53 c2_i32_51
  let v114 : BitVec 32 := Scalar.remsi v111 v113
  let c0_i32_55 : BitVec 32 := 0#32
  let v116 : BitVec 1 := Scalar.cmpi .slt v114 c0_i32_55
  let c0_i32_56 : BitVec 32 := 0#32
  let v117 : BitVec 1 := Scalar.cmpi .slt v113 c0_i32_56
  let v118 : BitVec 1 := Scalar.xori v116 v117
  let c0_i32_54 : BitVec 32 := 0#32
  let v115 : BitVec 1 := Scalar.cmpi .ne v114 c0_i32_54
  let v119 : BitVec 1 := Scalar.andi v118 v115
  let v120 : BitVec 32 := Scalar.addi v114 v113
  let v121 : BitVec 32 := Scalar.select v119 v120 v114
  let v122 : BitVec 32 := Scalar.addi v110 v121
  let c1_i32_142 : BitVec 32 := 1#32
  let v233 : BitVec 32 := Scalar.muli v122 c1_i32_142
  let v234 : BitVec 32 := Scalar.addi c0_i32_143 v233
  v234.toNat
def k0_dev8 (d0 : Dev nD) : Nat :=
  let c0_i32_153 : BitVec 32 := 0#32
  let c1_i32_59 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v125 : BitVec 32 := Scalar.subi c1_i32_59 v19
  let c4_i32_60 : BitVec 32 := 4#32
  let v126 : BitVec 32 := Scalar.muli v125 c4_i32_60
  let c1_i32_58 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v124 : BitVec 32 := Scalar.subi c1_i32_58 v46
  let c2_i32_61 : BitVec 32 := 2#32
  let v127 : BitVec 32 := Scalar.muli v124 c2_i32_61
  let v128 : BitVec 32 := Scalar.addi v126 v127
  let c1_i32_57 : BitVec 32 := 1#32
  let c0_i32_18 : BitVec 32 := 0#32
  let v48 : BitVec 1 := Scalar.cmpi .sgt v29 c0_i32_18
  let v49 : BitVec 32 := Scalar.extui v48
  let c0_i32_19 : BitVec 32 := 0#32
  let v50 : BitVec 1 := Scalar.cmpi .slt v29 c0_i32_19
  let v51 : BitVec 32 := Scalar.extui v50
  let v52 : BitVec 32 := Scalar.subi v49 v51
  let c2_i32_17 : BitVec 32 := 2#32
  let c0_i32_20 : BitVec 32 := 0#32
  let v53 : BitVec 1 := Scalar.cmpi .sgt c2_i32_17 c0_i32_20
  let v54 : BitVec 32 := Scalar.extui v53
  let c0_i32_21 : BitVec 32 := 0#32
  let v55 : BitVec 1 := Scalar.cmpi .slt c2_i32_17 c0_i32_21
  let v56 : BitVec 32 := Scalar.extui v55
  let v57 : BitVec 32 := Scalar.subi v54 v56
  let v58 : BitVec 1 := Scalar.cmpi .ne v52 v57
  let v59 : BitVec 32 := Scalar.remsi v29 c2_i32_17
  let c0_i32_22 : BitVec 32 := 0#32
  let v60 : BitVec 1 := Scalar.cmpi .ne v59 c0_i32_22
  let v61 : BitVec 1 := Scalar.andi v58 v60
  let v47 : BitVec 32 := Scalar.divsi v29 c2_i32_17
  let c1_i32_23 : BitVec 32 := 1#32
  let v62 : BitVec 32 := Scalar.subi v47 c1_i32_23
  let v63 : BitVec 32 := Scalar.select v61 v62 v47
  let v64 : BitVec 32 := Scalar.addi v63 v29
  let c2_i32_24 : BitVec 32 := 2#32
  let c0_i32_25 : BitVec 32 := 0#32
  let v65 : BitVec 1 := Scalar.cmpi .eq c2_i32_24 c0_i32_25
  let c1_i32_26 : BitVec 32 := 1#32
  let v66 : BitVec 32 := Scalar.select v65 c1_i32_26 c2_i32_24
  let v67 : BitVec 32 := Scalar.remsi v64 v66
  let c0_i32_28 : BitVec 32 := 0#32
  let v69 : BitVec 1 := Scalar.cmpi .slt v67 c0_i32_28
  let c0_i32_29 : BitVec 32 := 0#32
  let v70 : BitVec 1 := Scalar.cmpi .slt v66 c0_i32_29
  let v71 : BitVec 1 := Scalar.xori v69 v70
  let c0_i32_27 : BitVec 32 := 0#32
  let v68 : BitVec 1 := Scalar.cmpi .ne v67 c0_i32_27
  let v72 : BitVec 1 := Scalar.andi v71 v68
  let v73 : BitVec 32 := Scalar.addi v67 v66
  let v74 : BitVec 32 := Scalar.select v72 v73 v67
  let v123 : BitVec 32 := Scalar.subi c1_i32_57 v74
  let v129 : BitVec 32 := Scalar.addi v123 v124
  let c2_i32_62 : BitVec 32 := 2#32
  let c0_i32_63 : BitVec 32 := 0#32
  let v130 : BitVec 1 := Scalar.cmpi .eq c2_i32_62 c0_i32_63
  let c1_i32_64 : BitVec 32 := 1#32
  let v131 : BitVec 32 := Scalar.select v130 c1_i32_64 c2_i32_62
  let v132 : BitVec 32 := Scalar.remsi v129 v131
  let c0_i32_66 : BitVec 32 := 0#32
  let v134 : BitVec 1 := Scalar.cmpi .slt v132 c0_i32_66
  let c0_i32_67 : BitVec 32 := 0#32
  let v135 : BitVec 1 := Scalar.cmpi .slt v131 c0_i32_67
  let v136 : BitVec 1 := Scalar.xori v134 v135
  let c0_i32_65 : BitVec 32 := 0#32
  let v133 : BitVec 1 := Scalar.cmpi .ne v132 c0_i32_65
  let v137 : BitVec 1 := Scalar.andi v136 v133
  let v138 : BitVec 32 := Scalar.addi v132 v131
  let v139 : BitVec 32 := Scalar.select v137 v138 v132
  let v140 : BitVec 32 := Scalar.addi v128 v139
  let c1_i32_152 : BitVec 32 := 1#32
  let v243 : BitVec 32 := Scalar.muli v140 c1_i32_152
  let v244 : BitVec 32 := Scalar.addi c0_i32_153 v243
  v244.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v257 : BitVec 32 := Scalar.muli v2 c512_i32
  let v258 : Index := Scalar.indexCast v257
  let c0_163 : Index := 0#32
  ![v258.toNat, 0]
def k0_dev9 (d0 : Dev nD) : Nat :=
  let c0_i32_177 : BitVec 32 := 0#32
  let c1_i32_48 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v107 : BitVec 32 := Scalar.subi c1_i32_48 v19
  let c4_i32_49 : BitVec 32 := 4#32
  let v108 : BitVec 32 := Scalar.muli v107 c4_i32_49
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_50 : BitVec 32 := 2#32
  let v109 : BitVec 32 := Scalar.muli v46 c2_i32_50
  let v110 : BitVec 32 := Scalar.addi v108 v109
  let c0_i32_18 : BitVec 32 := 0#32
  let v48 : BitVec 1 := Scalar.cmpi .sgt v29 c0_i32_18
  let v49 : BitVec 32 := Scalar.extui v48
  let c0_i32_19 : BitVec 32 := 0#32
  let v50 : BitVec 1 := Scalar.cmpi .slt v29 c0_i32_19
  let v51 : BitVec 32 := Scalar.extui v50
  let v52 : BitVec 32 := Scalar.subi v49 v51
  let c2_i32_17 : BitVec 32 := 2#32
  let c0_i32_20 : BitVec 32 := 0#32
  let v53 : BitVec 1 := Scalar.cmpi .sgt c2_i32_17 c0_i32_20
  let v54 : BitVec 32 := Scalar.extui v53
  let c0_i32_21 : BitVec 32 := 0#32
  let v55 : BitVec 1 := Scalar.cmpi .slt c2_i32_17 c0_i32_21
  let v56 : BitVec 32 := Scalar.extui v55
  let v57 : BitVec 32 := Scalar.subi v54 v56
  let v58 : BitVec 1 := Scalar.cmpi .ne v52 v57
  let v59 : BitVec 32 := Scalar.remsi v29 c2_i32_17
  let c0_i32_22 : BitVec 32 := 0#32
  let v60 : BitVec 1 := Scalar.cmpi .ne v59 c0_i32_22
  let v61 : BitVec 1 := Scalar.andi v58 v60
  let v47 : BitVec 32 := Scalar.divsi v29 c2_i32_17
  let c1_i32_23 : BitVec 32 := 1#32
  let v62 : BitVec 32 := Scalar.subi v47 c1_i32_23
  let v63 : BitVec 32 := Scalar.select v61 v62 v47
  let v64 : BitVec 32 := Scalar.addi v63 v29
  let c2_i32_24 : BitVec 32 := 2#32
  let c0_i32_25 : BitVec 32 := 0#32
  let v65 : BitVec 1 := Scalar.cmpi .eq c2_i32_24 c0_i32_25
  let c1_i32_26 : BitVec 32 := 1#32
  let v66 : BitVec 32 := Scalar.select v65 c1_i32_26 c2_i32_24
  let v67 : BitVec 32 := Scalar.remsi v64 v66
  let c0_i32_28 : BitVec 32 := 0#32
  let v69 : BitVec 1 := Scalar.cmpi .slt v67 c0_i32_28
  let c0_i32_29 : BitVec 32 := 0#32
  let v70 : BitVec 1 := Scalar.cmpi .slt v66 c0_i32_29
  let v71 : BitVec 1 := Scalar.xori v69 v70
  let c0_i32_27 : BitVec 32 := 0#32
  let v68 : BitVec 1 := Scalar.cmpi .ne v67 c0_i32_27
  let v72 : BitVec 1 := Scalar.andi v71 v68
  let v73 : BitVec 32 := Scalar.addi v67 v66
  let v74 : BitVec 32 := Scalar.select v72 v73 v67
  let v111 : BitVec 32 := Scalar.addi v74 v46
  let c2_i32_51 : BitVec 32 := 2#32
  let c0_i32_52 : BitVec 32 := 0#32
  let v112 : BitVec 1 := Scalar.cmpi .eq c2_i32_51 c0_i32_52
  let c1_i32_53 : BitVec 32 := 1#32
  let v113 : BitVec 32 := Scalar.select v112 c1_i32_53 c2_i32_51
  let v114 : BitVec 32 := Scalar.remsi v111 v113
  let c0_i32_55 : BitVec 32 := 0#32
  let v116 : BitVec 1 := Scalar.cmpi .slt v114 c0_i32_55
  let c0_i32_56 : BitVec 32 := 0#32
  let v117 : BitVec 1 := Scalar.cmpi .slt v113 c0_i32_56
  let v118 : BitVec 1 := Scalar.xori v116 v117
  let c0_i32_54 : BitVec 32 := 0#32
  let v115 : BitVec 1 := Scalar.cmpi .ne v114 c0_i32_54
  let v119 : BitVec 1 := Scalar.andi v118 v115
  let v120 : BitVec 32 := Scalar.addi v114 v113
  let v121 : BitVec 32 := Scalar.select v119 v120 v114
  let v122 : BitVec 32 := Scalar.addi v110 v121
  let c1_i32_176 : BitVec 32 := 1#32
  let v268 : BitVec 32 := Scalar.muli v122 c1_i32_176
  let v269 : BitVec 32 := Scalar.addi c0_i32_177 v268
  v269.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_31 : BitVec 32 := 4#32
  let v76 : BitVec 32 := Scalar.muli v19 c4_i32_31
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_32 : BitVec 32 := 2#32
  let v77 : BitVec 32 := Scalar.muli v46 c2_i32_32
  let v78 : BitVec 32 := Scalar.addi v76 v77
  let c1_i32_30 : BitVec 32 := 1#32
  let c0_i32_18 : BitVec 32 := 0#32
  let v48 : BitVec 1 := Scalar.cmpi .sgt v29 c0_i32_18
  let v49 : BitVec 32 := Scalar.extui v48
  let c0_i32_19 : BitVec 32 := 0#32
  let v50 : BitVec 1 := Scalar.cmpi .slt v29 c0_i32_19
  let v51 : BitVec 32 := Scalar.extui v50
  let v52 : BitVec 32 := Scalar.subi v49 v51
  let c2_i32_17 : BitVec 32 := 2#32
  let c0_i32_20 : BitVec 32 := 0#32
  let v53 : BitVec 1 := Scalar.cmpi .sgt c2_i32_17 c0_i32_20
  let v54 : BitVec 32 := Scalar.extui v53
  let c0_i32_21 : BitVec 32 := 0#32
  let v55 : BitVec 1 := Scalar.cmpi .slt c2_i32_17 c0_i32_21
  let v56 : BitVec 32 := Scalar.extui v55
  let v57 : BitVec 32 := Scalar.subi v54 v56
  let v58 : BitVec 1 := Scalar.cmpi .ne v52 v57
  let v59 : BitVec 32 := Scalar.remsi v29 c2_i32_17
  let c0_i32_22 : BitVec 32 := 0#32
  let v60 : BitVec 1 := Scalar.cmpi .ne v59 c0_i32_22
  let v61 : BitVec 1 := Scalar.andi v58 v60
  let v47 : BitVec 32 := Scalar.divsi v29 c2_i32_17
  let c1_i32_23 : BitVec 32 := 1#32
  let v62 : BitVec 32 := Scalar.subi v47 c1_i32_23
  let v63 : BitVec 32 := Scalar.select v61 v62 v47
  let v64 : BitVec 32 := Scalar.addi v63 v29
  let c2_i32_24 : BitVec 32 := 2#32
  let c0_i32_25 : BitVec 32 := 0#32
  let v65 : BitVec 1 := Scalar.cmpi .eq c2_i32_24 c0_i32_25
  let c1_i32_26 : BitVec 32 := 1#32
  let v66 : BitVec 32 := Scalar.select v65 c1_i32_26 c2_i32_24
  let v67 : BitVec 32 := Scalar.remsi v64 v66
  let c0_i32_28 : BitVec 32 := 0#32
  let v69 : BitVec 1 := Scalar.cmpi .slt v67 c0_i32_28
  let c0_i32_29 : BitVec 32 := 0#32
  let v70 : BitVec 1 := Scalar.cmpi .slt v66 c0_i32_29
  let v71 : BitVec 1 := Scalar.xori v69 v70
  let c0_i32_27 : BitVec 32 := 0#32
  let v68 : BitVec 1 := Scalar.cmpi .ne v67 c0_i32_27
  let v72 : BitVec 1 := Scalar.andi v71 v68
  let v73 : BitVec 32 := Scalar.addi v67 v66
  let v74 : BitVec 32 := Scalar.select v72 v73 v67
  let v75 : BitVec 32 := Scalar.subi c1_i32_30 v74
  let v79 : BitVec 32 := Scalar.addi v75 v46
  let c2_i32_33 : BitVec 32 := 2#32
  let c0_i32_34 : BitVec 32 := 0#32
  let v80 : BitVec 1 := Scalar.cmpi .eq c2_i32_33 c0_i32_34
  let c1_i32_35 : BitVec 32 := 1#32
  let v81 : BitVec 32 := Scalar.select v80 c1_i32_35 c2_i32_33
  let v82 : BitVec 32 := Scalar.remsi v79 v81
  let c0_i32_37 : BitVec 32 := 0#32
  let v84 : BitVec 1 := Scalar.cmpi .slt v82 c0_i32_37
  let c0_i32_38 : BitVec 32 := 0#32
  let v85 : BitVec 1 := Scalar.cmpi .slt v81 c0_i32_38
  let v86 : BitVec 1 := Scalar.xori v84 v85
  let c0_i32_36 : BitVec 32 := 0#32
  let v83 : BitVec 1 := Scalar.cmpi .ne v82 c0_i32_36
  let v87 : BitVec 1 := Scalar.andi v86 v83
  let v88 : BitVec 32 := Scalar.addi v82 v81
  let v89 : BitVec 32 := Scalar.select v87 v88 v82
  let v90 : BitVec 32 := Scalar.addi v78 v89
  let c512_i32_187 : BitVec 32 := 512#32
  let v282 : BitVec 32 := Scalar.muli v90 c512_i32_187
  let v283 : Index := Scalar.indexCast v282
  let c0_188 : Index := 0#32
  ![v283.toNat, 0]
def k0_dev10 (d0 : Dev nD) : Nat :=
  let c0_i32_203 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_31 : BitVec 32 := 4#32
  let v76 : BitVec 32 := Scalar.muli v19 c4_i32_31
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_32 : BitVec 32 := 2#32
  let v77 : BitVec 32 := Scalar.muli v46 c2_i32_32
  let v78 : BitVec 32 := Scalar.addi v76 v77
  let c1_i32_30 : BitVec 32 := 1#32
  let c0_i32_18 : BitVec 32 := 0#32
  let v48 : BitVec 1 := Scalar.cmpi .sgt v29 c0_i32_18
  let v49 : BitVec 32 := Scalar.extui v48
  let c0_i32_19 : BitVec 32 := 0#32
  let v50 : BitVec 1 := Scalar.cmpi .slt v29 c0_i32_19
  let v51 : BitVec 32 := Scalar.extui v50
  let v52 : BitVec 32 := Scalar.subi v49 v51
  let c2_i32_17 : BitVec 32 := 2#32
  let c0_i32_20 : BitVec 32 := 0#32
  let v53 : BitVec 1 := Scalar.cmpi .sgt c2_i32_17 c0_i32_20
  let v54 : BitVec 32 := Scalar.extui v53
  let c0_i32_21 : BitVec 32 := 0#32
  let v55 : BitVec 1 := Scalar.cmpi .slt c2_i32_17 c0_i32_21
  let v56 : BitVec 32 := Scalar.extui v55
  let v57 : BitVec 32 := Scalar.subi v54 v56
  let v58 : BitVec 1 := Scalar.cmpi .ne v52 v57
  let v59 : BitVec 32 := Scalar.remsi v29 c2_i32_17
  let c0_i32_22 : BitVec 32 := 0#32
  let v60 : BitVec 1 := Scalar.cmpi .ne v59 c0_i32_22
  let v61 : BitVec 1 := Scalar.andi v58 v60
  let v47 : BitVec 32 := Scalar.divsi v29 c2_i32_17
  let c1_i32_23 : BitVec 32 := 1#32
  let v62 : BitVec 32 := Scalar.subi v47 c1_i32_23
  let v63 : BitVec 32 := Scalar.select v61 v62 v47
  let v64 : BitVec 32 := Scalar.addi v63 v29
  let c2_i32_24 : BitVec 32 := 2#32
  let c0_i32_25 : BitVec 32 := 0#32
  let v65 : BitVec 1 := Scalar.cmpi .eq c2_i32_24 c0_i32_25
  let c1_i32_26 : BitVec 32 := 1#32
  let v66 : BitVec 32 := Scalar.select v65 c1_i32_26 c2_i32_24
  let v67 : BitVec 32 := Scalar.remsi v64 v66
  let c0_i32_28 : BitVec 32 := 0#32
  let v69 : BitVec 1 := Scalar.cmpi .slt v67 c0_i32_28
  let c0_i32_29 : BitVec 32 := 0#32
  let v70 : BitVec 1 := Scalar.cmpi .slt v66 c0_i32_29
  let v71 : BitVec 1 := Scalar.xori v69 v70
  let c0_i32_27 : BitVec 32 := 0#32
  let v68 : BitVec 1 := Scalar.cmpi .ne v67 c0_i32_27
  let v72 : BitVec 1 := Scalar.andi v71 v68
  let v73 : BitVec 32 := Scalar.addi v67 v66
  let v74 : BitVec 32 := Scalar.select v72 v73 v67
  let v75 : BitVec 32 := Scalar.subi c1_i32_30 v74
  let v79 : BitVec 32 := Scalar.addi v75 v46
  let c2_i32_33 : BitVec 32 := 2#32
  let c0_i32_34 : BitVec 32 := 0#32
  let v80 : BitVec 1 := Scalar.cmpi .eq c2_i32_33 c0_i32_34
  let c1_i32_35 : BitVec 32 := 1#32
  let v81 : BitVec 32 := Scalar.select v80 c1_i32_35 c2_i32_33
  let v82 : BitVec 32 := Scalar.remsi v79 v81
  let c0_i32_37 : BitVec 32 := 0#32
  let v84 : BitVec 1 := Scalar.cmpi .slt v82 c0_i32_37
  let c0_i32_38 : BitVec 32 := 0#32
  let v85 : BitVec 1 := Scalar.cmpi .slt v81 c0_i32_38
  let v86 : BitVec 1 := Scalar.xori v84 v85
  let c0_i32_36 : BitVec 32 := 0#32
  let v83 : BitVec 1 := Scalar.cmpi .ne v82 c0_i32_36
  let v87 : BitVec 1 := Scalar.andi v86 v83
  let v88 : BitVec 32 := Scalar.addi v82 v81
  let v89 : BitVec 32 := Scalar.select v87 v88 v82
  let v90 : BitVec 32 := Scalar.addi v78 v89
  let c1_i32_202 : BitVec 32 := 1#32
  let v293 : BitVec 32 := Scalar.muli v90 c1_i32_202
  let v294 : BitVec 32 := Scalar.addi c0_i32_203 v293
  v294.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_40 : BitVec 32 := 4#32
  let v92 : BitVec 32 := Scalar.muli v19 c4_i32_40
  let c1_i32_39 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v91 : BitVec 32 := Scalar.subi c1_i32_39 v46
  let c2_i32_41 : BitVec 32 := 2#32
  let v93 : BitVec 32 := Scalar.muli v91 c2_i32_41
  let v94 : BitVec 32 := Scalar.addi v92 v93
  let c0_i32_18 : BitVec 32 := 0#32
  let v48 : BitVec 1 := Scalar.cmpi .sgt v29 c0_i32_18
  let v49 : BitVec 32 := Scalar.extui v48
  let c0_i32_19 : BitVec 32 := 0#32
  let v50 : BitVec 1 := Scalar.cmpi .slt v29 c0_i32_19
  let v51 : BitVec 32 := Scalar.extui v50
  let v52 : BitVec 32 := Scalar.subi v49 v51
  let c2_i32_17 : BitVec 32 := 2#32
  let c0_i32_20 : BitVec 32 := 0#32
  let v53 : BitVec 1 := Scalar.cmpi .sgt c2_i32_17 c0_i32_20
  let v54 : BitVec 32 := Scalar.extui v53
  let c0_i32_21 : BitVec 32 := 0#32
  let v55 : BitVec 1 := Scalar.cmpi .slt c2_i32_17 c0_i32_21
  let v56 : BitVec 32 := Scalar.extui v55
  let v57 : BitVec 32 := Scalar.subi v54 v56
  let v58 : BitVec 1 := Scalar.cmpi .ne v52 v57
  let v59 : BitVec 32 := Scalar.remsi v29 c2_i32_17
  let c0_i32_22 : BitVec 32 := 0#32
  let v60 : BitVec 1 := Scalar.cmpi .ne v59 c0_i32_22
  let v61 : BitVec 1 := Scalar.andi v58 v60
  let v47 : BitVec 32 := Scalar.divsi v29 c2_i32_17
  let c1_i32_23 : BitVec 32 := 1#32
  let v62 : BitVec 32 := Scalar.subi v47 c1_i32_23
  let v63 : BitVec 32 := Scalar.select v61 v62 v47
  let v64 : BitVec 32 := Scalar.addi v63 v29
  let c2_i32_24 : BitVec 32 := 2#32
  let c0_i32_25 : BitVec 32 := 0#32
  let v65 : BitVec 1 := Scalar.cmpi .eq c2_i32_24 c0_i32_25
  let c1_i32_26 : BitVec 32 := 1#32
  let v66 : BitVec 32 := Scalar.select v65 c1_i32_26 c2_i32_24
  let v67 : BitVec 32 := Scalar.remsi v64 v66
  let c0_i32_28 : BitVec 32 := 0#32
  let v69 : BitVec 1 := Scalar.cmpi .slt v67 c0_i32_28
  let c0_i32_29 : BitVec 32 := 0#32
  let v70 : BitVec 1 := Scalar.cmpi .slt v66 c0_i32_29
  let v71 : BitVec 1 := Scalar.xori v69 v70
  let c0_i32_27 : BitVec 32 := 0#32
  let v68 : BitVec 1 := Scalar.cmpi .ne v67 c0_i32_27
  let v72 : BitVec 1 := Scalar.andi v71 v68
  let v73 : BitVec 32 := Scalar.addi v67 v66
  let v74 : BitVec 32 := Scalar.select v72 v73 v67
  let v95 : BitVec 32 := Scalar.addi v74 v91
  let c2_i32_42 : BitVec 32 := 2#32
  let c0_i32_43 : BitVec 32 := 0#32
  let v96 : BitVec 1 := Scalar.cmpi .eq c2_i32_42 c0_i32_43
  let c1_i32_44 : BitVec 32 := 1#32
  let v97 : BitVec 32 := Scalar.select v96 c1_i32_44 c2_i32_42
  let v98 : BitVec 32 := Scalar.remsi v95 v97
  let c0_i32_46 : BitVec 32 := 0#32
  let v100 : BitVec 1 := Scalar.cmpi .slt v98 c0_i32_46
  let c0_i32_47 : BitVec 32 := 0#32
  let v101 : BitVec 1 := Scalar.cmpi .slt v97 c0_i32_47
  let v102 : BitVec 1 := Scalar.xori v100 v101
  let c0_i32_45 : BitVec 32 := 0#32
  let v99 : BitVec 1 := Scalar.cmpi .ne v98 c0_i32_45
  let v103 : BitVec 1 := Scalar.andi v102 v99
  let v104 : BitVec 32 := Scalar.addi v98 v97
  let v105 : BitVec 32 := Scalar.select v103 v104 v98
  let v106 : BitVec 32 := Scalar.addi v94 v105
  let c512_i32_213 : BitVec 32 := 512#32
  let v307 : BitVec 32 := Scalar.muli v106 c512_i32_213
  let v308 : Index := Scalar.indexCast v307
  let c0_214 : Index := 0#32
  ![v308.toNat, 0]
def k0_dev11 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_40 : BitVec 32 := 4#32
  let v92 : BitVec 32 := Scalar.muli v19 c4_i32_40
  let c1_i32_39 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v91 : BitVec 32 := Scalar.subi c1_i32_39 v46
  let c2_i32_41 : BitVec 32 := 2#32
  let v93 : BitVec 32 := Scalar.muli v91 c2_i32_41
  let v94 : BitVec 32 := Scalar.addi v92 v93
  let c0_i32_18 : BitVec 32 := 0#32
  let v48 : BitVec 1 := Scalar.cmpi .sgt v29 c0_i32_18
  let v49 : BitVec 32 := Scalar.extui v48
  let c0_i32_19 : BitVec 32 := 0#32
  let v50 : BitVec 1 := Scalar.cmpi .slt v29 c0_i32_19
  let v51 : BitVec 32 := Scalar.extui v50
  let v52 : BitVec 32 := Scalar.subi v49 v51
  let c2_i32_17 : BitVec 32 := 2#32
  let c0_i32_20 : BitVec 32 := 0#32
  let v53 : BitVec 1 := Scalar.cmpi .sgt c2_i32_17 c0_i32_20
  let v54 : BitVec 32 := Scalar.extui v53
  let c0_i32_21 : BitVec 32 := 0#32
  let v55 : BitVec 1 := Scalar.cmpi .slt c2_i32_17 c0_i32_21
  let v56 : BitVec 32 := Scalar.extui v55
  let v57 : BitVec 32 := Scalar.subi v54 v56
  let v58 : BitVec 1 := Scalar.cmpi .ne v52 v57
  let v59 : BitVec 32 := Scalar.remsi v29 c2_i32_17
  let c0_i32_22 : BitVec 32 := 0#32
  let v60 : BitVec 1 := Scalar.cmpi .ne v59 c0_i32_22
  let v61 : BitVec 1 := Scalar.andi v58 v60
  let v47 : BitVec 32 := Scalar.divsi v29 c2_i32_17
  let c1_i32_23 : BitVec 32 := 1#32
  let v62 : BitVec 32 := Scalar.subi v47 c1_i32_23
  let v63 : BitVec 32 := Scalar.select v61 v62 v47
  let v64 : BitVec 32 := Scalar.addi v63 v29
  let c2_i32_24 : BitVec 32 := 2#32
  let c0_i32_25 : BitVec 32 := 0#32
  let v65 : BitVec 1 := Scalar.cmpi .eq c2_i32_24 c0_i32_25
  let c1_i32_26 : BitVec 32 := 1#32
  let v66 : BitVec 32 := Scalar.select v65 c1_i32_26 c2_i32_24
  let v67 : BitVec 32 := Scalar.remsi v64 v66
  let c0_i32_28 : BitVec 32 := 0#32
  let v69 : BitVec 1 := Scalar.cmpi .slt v67 c0_i32_28
  let c0_i32_29 : BitVec 32 := 0#32
  let v70 : BitVec 1 := Scalar.cmpi .slt v66 c0_i32_29
  let v71 : BitVec 1 := Scalar.xori v69 v70
  let c0_i32_27 : BitVec 32 := 0#32
  let v68 : BitVec 1 := Scalar.cmpi .ne v67 c0_i32_27
  let v72 : BitVec 1 := Scalar.andi v71 v68
  let v73 : BitVec 32 := Scalar.addi v67 v66
  let v74 : BitVec 32 := Scalar.select v72 v73 v67
  let v95 : BitVec 32 := Scalar.addi v74 v91
  let c2_i32_42 : BitVec 32 := 2#32
  let c0_i32_43 : BitVec 32 := 0#32
  let v96 : BitVec 1 := Scalar.cmpi .eq c2_i32_42 c0_i32_43
  let c1_i32_44 : BitVec 32 := 1#32
  let v97 : BitVec 32 := Scalar.select v96 c1_i32_44 c2_i32_42
  let v98 : BitVec 32 := Scalar.remsi v95 v97
  let c0_i32_46 : BitVec 32 := 0#32
  let v100 : BitVec 1 := Scalar.cmpi .slt v98 c0_i32_46
  let c0_i32_47 : BitVec 32 := 0#32
  let v101 : BitVec 1 := Scalar.cmpi .slt v97 c0_i32_47
  let v102 : BitVec 1 := Scalar.xori v100 v101
  let c0_i32_45 : BitVec 32 := 0#32
  let v99 : BitVec 1 := Scalar.cmpi .ne v98 c0_i32_45
  let v103 : BitVec 1 := Scalar.andi v102 v99
  let v104 : BitVec 32 := Scalar.addi v98 v97
  let v105 : BitVec 32 := Scalar.select v103 v104 v98
  let v106 : BitVec 32 := Scalar.addi v94 v105
  let c1_i32_229 : BitVec 32 := 1#32
  let v318 : BitVec 32 := Scalar.muli v106 c1_i32_229
  let v319 : BitVec 32 := Scalar.addi c0_i32_230 v318
  v319.toNat
def k0_off4 (d0 : Dev nD) : Fin 2 → Nat :=
  let c1_i32_48 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v107 : BitVec 32 := Scalar.subi c1_i32_48 v19
  let c4_i32_49 : BitVec 32 := 4#32
  let v108 : BitVec 32 := Scalar.muli v107 c4_i32_49
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_50 : BitVec 32 := 2#32
  let v109 : BitVec 32 := Scalar.muli v46 c2_i32_50
  let v110 : BitVec 32 := Scalar.addi v108 v109
  let c0_i32_18 : BitVec 32 := 0#32
  let v48 : BitVec 1 := Scalar.cmpi .sgt v29 c0_i32_18
  let v49 : BitVec 32 := Scalar.extui v48
  let c0_i32_19 : BitVec 32 := 0#32
  let v50 : BitVec 1 := Scalar.cmpi .slt v29 c0_i32_19
  let v51 : BitVec 32 := Scalar.extui v50
  let v52 : BitVec 32 := Scalar.subi v49 v51
  let c2_i32_17 : BitVec 32 := 2#32
  let c0_i32_20 : BitVec 32 := 0#32
  let v53 : BitVec 1 := Scalar.cmpi .sgt c2_i32_17 c0_i32_20
  let v54 : BitVec 32 := Scalar.extui v53
  let c0_i32_21 : BitVec 32 := 0#32
  let v55 : BitVec 1 := Scalar.cmpi .slt c2_i32_17 c0_i32_21
  let v56 : BitVec 32 := Scalar.extui v55
  let v57 : BitVec 32 := Scalar.subi v54 v56
  let v58 : BitVec 1 := Scalar.cmpi .ne v52 v57
  let v59 : BitVec 32 := Scalar.remsi v29 c2_i32_17
  let c0_i32_22 : BitVec 32 := 0#32
  let v60 : BitVec 1 := Scalar.cmpi .ne v59 c0_i32_22
  let v61 : BitVec 1 := Scalar.andi v58 v60
  let v47 : BitVec 32 := Scalar.divsi v29 c2_i32_17
  let c1_i32_23 : BitVec 32 := 1#32
  let v62 : BitVec 32 := Scalar.subi v47 c1_i32_23
  let v63 : BitVec 32 := Scalar.select v61 v62 v47
  let v64 : BitVec 32 := Scalar.addi v63 v29
  let c2_i32_24 : BitVec 32 := 2#32
  let c0_i32_25 : BitVec 32 := 0#32
  let v65 : BitVec 1 := Scalar.cmpi .eq c2_i32_24 c0_i32_25
  let c1_i32_26 : BitVec 32 := 1#32
  let v66 : BitVec 32 := Scalar.select v65 c1_i32_26 c2_i32_24
  let v67 : BitVec 32 := Scalar.remsi v64 v66
  let c0_i32_28 : BitVec 32 := 0#32
  let v69 : BitVec 1 := Scalar.cmpi .slt v67 c0_i32_28
  let c0_i32_29 : BitVec 32 := 0#32
  let v70 : BitVec 1 := Scalar.cmpi .slt v66 c0_i32_29
  let v71 : BitVec 1 := Scalar.xori v69 v70
  let c0_i32_27 : BitVec 32 := 0#32
  let v68 : BitVec 1 := Scalar.cmpi .ne v67 c0_i32_27
  let v72 : BitVec 1 := Scalar.andi v71 v68
  let v73 : BitVec 32 := Scalar.addi v67 v66
  let v74 : BitVec 32 := Scalar.select v72 v73 v67
  let v111 : BitVec 32 := Scalar.addi v74 v46
  let c2_i32_51 : BitVec 32 := 2#32
  let c0_i32_52 : BitVec 32 := 0#32
  let v112 : BitVec 1 := Scalar.cmpi .eq c2_i32_51 c0_i32_52
  let c1_i32_53 : BitVec 32 := 1#32
  let v113 : BitVec 32 := Scalar.select v112 c1_i32_53 c2_i32_51
  let v114 : BitVec 32 := Scalar.remsi v111 v113
  let c0_i32_55 : BitVec 32 := 0#32
  let v116 : BitVec 1 := Scalar.cmpi .slt v114 c0_i32_55
  let c0_i32_56 : BitVec 32 := 0#32
  let v117 : BitVec 1 := Scalar.cmpi .slt v113 c0_i32_56
  let v118 : BitVec 1 := Scalar.xori v116 v117
  let c0_i32_54 : BitVec 32 := 0#32
  let v115 : BitVec 1 := Scalar.cmpi .ne v114 c0_i32_54
  let v119 : BitVec 1 := Scalar.andi v118 v115
  let v120 : BitVec 32 := Scalar.addi v114 v113
  let v121 : BitVec 32 := Scalar.select v119 v120 v114
  let v122 : BitVec 32 := Scalar.addi v110 v121
  let c512_i32_240 : BitVec 32 := 512#32
  let v332 : BitVec 32 := Scalar.muli v122 c512_i32_240
  let v333 : Index := Scalar.indexCast v332
  let c0_241 : Index := 0#32
  ![v333.toNat, 0]
def k0_off5 (d0 : Dev nD) : Fin 2 → Nat :=
  let c1_i32_59 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v125 : BitVec 32 := Scalar.subi c1_i32_59 v19
  let c4_i32_60 : BitVec 32 := 4#32
  let v126 : BitVec 32 := Scalar.muli v125 c4_i32_60
  let c1_i32_58 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v124 : BitVec 32 := Scalar.subi c1_i32_58 v46
  let c2_i32_61 : BitVec 32 := 2#32
  let v127 : BitVec 32 := Scalar.muli v124 c2_i32_61
  let v128 : BitVec 32 := Scalar.addi v126 v127
  let c1_i32_57 : BitVec 32 := 1#32
  let c0_i32_18 : BitVec 32 := 0#32
  let v48 : BitVec 1 := Scalar.cmpi .sgt v29 c0_i32_18
  let v49 : BitVec 32 := Scalar.extui v48
  let c0_i32_19 : BitVec 32 := 0#32
  let v50 : BitVec 1 := Scalar.cmpi .slt v29 c0_i32_19
  let v51 : BitVec 32 := Scalar.extui v50
  let v52 : BitVec 32 := Scalar.subi v49 v51
  let c2_i32_17 : BitVec 32 := 2#32
  let c0_i32_20 : BitVec 32 := 0#32
  let v53 : BitVec 1 := Scalar.cmpi .sgt c2_i32_17 c0_i32_20
  let v54 : BitVec 32 := Scalar.extui v53
  let c0_i32_21 : BitVec 32 := 0#32
  let v55 : BitVec 1 := Scalar.cmpi .slt c2_i32_17 c0_i32_21
  let v56 : BitVec 32 := Scalar.extui v55
  let v57 : BitVec 32 := Scalar.subi v54 v56
  let v58 : BitVec 1 := Scalar.cmpi .ne v52 v57
  let v59 : BitVec 32 := Scalar.remsi v29 c2_i32_17
  let c0_i32_22 : BitVec 32 := 0#32
  let v60 : BitVec 1 := Scalar.cmpi .ne v59 c0_i32_22
  let v61 : BitVec 1 := Scalar.andi v58 v60
  let v47 : BitVec 32 := Scalar.divsi v29 c2_i32_17
  let c1_i32_23 : BitVec 32 := 1#32
  let v62 : BitVec 32 := Scalar.subi v47 c1_i32_23
  let v63 : BitVec 32 := Scalar.select v61 v62 v47
  let v64 : BitVec 32 := Scalar.addi v63 v29
  let c2_i32_24 : BitVec 32 := 2#32
  let c0_i32_25 : BitVec 32 := 0#32
  let v65 : BitVec 1 := Scalar.cmpi .eq c2_i32_24 c0_i32_25
  let c1_i32_26 : BitVec 32 := 1#32
  let v66 : BitVec 32 := Scalar.select v65 c1_i32_26 c2_i32_24
  let v67 : BitVec 32 := Scalar.remsi v64 v66
  let c0_i32_28 : BitVec 32 := 0#32
  let v69 : BitVec 1 := Scalar.cmpi .slt v67 c0_i32_28
  let c0_i32_29 : BitVec 32 := 0#32
  let v70 : BitVec 1 := Scalar.cmpi .slt v66 c0_i32_29
  let v71 : BitVec 1 := Scalar.xori v69 v70
  let c0_i32_27 : BitVec 32 := 0#32
  let v68 : BitVec 1 := Scalar.cmpi .ne v67 c0_i32_27
  let v72 : BitVec 1 := Scalar.andi v71 v68
  let v73 : BitVec 32 := Scalar.addi v67 v66
  let v74 : BitVec 32 := Scalar.select v72 v73 v67
  let v123 : BitVec 32 := Scalar.subi c1_i32_57 v74
  let v129 : BitVec 32 := Scalar.addi v123 v124
  let c2_i32_62 : BitVec 32 := 2#32
  let c0_i32_63 : BitVec 32 := 0#32
  let v130 : BitVec 1 := Scalar.cmpi .eq c2_i32_62 c0_i32_63
  let c1_i32_64 : BitVec 32 := 1#32
  let v131 : BitVec 32 := Scalar.select v130 c1_i32_64 c2_i32_62
  let v132 : BitVec 32 := Scalar.remsi v129 v131
  let c0_i32_66 : BitVec 32 := 0#32
  let v134 : BitVec 1 := Scalar.cmpi .slt v132 c0_i32_66
  let c0_i32_67 : BitVec 32 := 0#32
  let v135 : BitVec 1 := Scalar.cmpi .slt v131 c0_i32_67
  let v136 : BitVec 1 := Scalar.xori v134 v135
  let c0_i32_65 : BitVec 32 := 0#32
  let v133 : BitVec 1 := Scalar.cmpi .ne v132 c0_i32_65
  let v137 : BitVec 1 := Scalar.andi v136 v133
  let v138 : BitVec 32 := Scalar.addi v132 v131
  let v139 : BitVec 32 := Scalar.select v137 v138 v132
  let v140 : BitVec 32 := Scalar.addi v128 v139
  let c512_i32_257 : BitVec 32 := 512#32
  let v347 : BitVec 32 := Scalar.muli v140 c512_i32_257
  let v348 : Index := Scalar.indexCast v347
  let c0_258 : Index := 0#32
  ![v348.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_70 : BitVec 32 := 4#32
  let v143 : BitVec 32 := Scalar.muli v19 c4_i32_70
  let c1_i32_69 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v142 : BitVec 32 := Scalar.subi c1_i32_69 v46
  let c2_i32_71 : BitVec 32 := 2#32
  let v144 : BitVec 32 := Scalar.muli v142 c2_i32_71
  let v145 : BitVec 32 := Scalar.addi v143 v144
  let c1_i32_68 : BitVec 32 := 1#32
  let c0_i32_18 : BitVec 32 := 0#32
  let v48 : BitVec 1 := Scalar.cmpi .sgt v29 c0_i32_18
  let v49 : BitVec 32 := Scalar.extui v48
  let c0_i32_19 : BitVec 32 := 0#32
  let v50 : BitVec 1 := Scalar.cmpi .slt v29 c0_i32_19
  let v51 : BitVec 32 := Scalar.extui v50
  let v52 : BitVec 32 := Scalar.subi v49 v51
  let c2_i32_17 : BitVec 32 := 2#32
  let c0_i32_20 : BitVec 32 := 0#32
  let v53 : BitVec 1 := Scalar.cmpi .sgt c2_i32_17 c0_i32_20
  let v54 : BitVec 32 := Scalar.extui v53
  let c0_i32_21 : BitVec 32 := 0#32
  let v55 : BitVec 1 := Scalar.cmpi .slt c2_i32_17 c0_i32_21
  let v56 : BitVec 32 := Scalar.extui v55
  let v57 : BitVec 32 := Scalar.subi v54 v56
  let v58 : BitVec 1 := Scalar.cmpi .ne v52 v57
  let v59 : BitVec 32 := Scalar.remsi v29 c2_i32_17
  let c0_i32_22 : BitVec 32 := 0#32
  let v60 : BitVec 1 := Scalar.cmpi .ne v59 c0_i32_22
  let v61 : BitVec 1 := Scalar.andi v58 v60
  let v47 : BitVec 32 := Scalar.divsi v29 c2_i32_17
  let c1_i32_23 : BitVec 32 := 1#32
  let v62 : BitVec 32 := Scalar.subi v47 c1_i32_23
  let v63 : BitVec 32 := Scalar.select v61 v62 v47
  let v64 : BitVec 32 := Scalar.addi v63 v29
  let c2_i32_24 : BitVec 32 := 2#32
  let c0_i32_25 : BitVec 32 := 0#32
  let v65 : BitVec 1 := Scalar.cmpi .eq c2_i32_24 c0_i32_25
  let c1_i32_26 : BitVec 32 := 1#32
  let v66 : BitVec 32 := Scalar.select v65 c1_i32_26 c2_i32_24
  let v67 : BitVec 32 := Scalar.remsi v64 v66
  let c0_i32_28 : BitVec 32 := 0#32
  let v69 : BitVec 1 := Scalar.cmpi .slt v67 c0_i32_28
  let c0_i32_29 : BitVec 32 := 0#32
  let v70 : BitVec 1 := Scalar.cmpi .slt v66 c0_i32_29
  let v71 : BitVec 1 := Scalar.xori v69 v70
  let c0_i32_27 : BitVec 32 := 0#32
  let v68 : BitVec 1 := Scalar.cmpi .ne v67 c0_i32_27
  let v72 : BitVec 1 := Scalar.andi v71 v68
  let v73 : BitVec 32 := Scalar.addi v67 v66
  let v74 : BitVec 32 := Scalar.select v72 v73 v67
  let v141 : BitVec 32 := Scalar.subi c1_i32_68 v74
  let v146 : BitVec 32 := Scalar.addi v141 v142
  let c2_i32_72 : BitVec 32 := 2#32
  let c0_i32_73 : BitVec 32 := 0#32
  let v147 : BitVec 1 := Scalar.cmpi .eq c2_i32_72 c0_i32_73
  let c1_i32_74 : BitVec 32 := 1#32
  let v148 : BitVec 32 := Scalar.select v147 c1_i32_74 c2_i32_72
  let v149 : BitVec 32 := Scalar.remsi v146 v148
  let c0_i32_76 : BitVec 32 := 0#32
  let v151 : BitVec 1 := Scalar.cmpi .slt v149 c0_i32_76
  let c0_i32_77 : BitVec 32 := 0#32
  let v152 : BitVec 1 := Scalar.cmpi .slt v148 c0_i32_77
  let v153 : BitVec 1 := Scalar.xori v151 v152
  let c0_i32_75 : BitVec 32 := 0#32
  let v150 : BitVec 1 := Scalar.cmpi .ne v149 c0_i32_75
  let v154 : BitVec 1 := Scalar.andi v153 v150
  let v155 : BitVec 32 := Scalar.addi v149 v148
  let v156 : BitVec 32 := Scalar.select v154 v155 v149
  let v157 : BitVec 32 := Scalar.addi v145 v156
  let c512_i32_274 : BitVec 32 := 512#32
  let v362 : BitVec 32 := Scalar.muli v157 c512_i32_274
  let v363 : Index := Scalar.indexCast v362
  let c0_275 : Index := 0#32
  ![v363.toNat, 0]
def k0_off7 (d0 : Dev nD) : Fin 2 → Nat :=
  let c1_i32_79 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v159 : BitVec 32 := Scalar.subi c1_i32_79 v19
  let c4_i32_80 : BitVec 32 := 4#32
  let v160 : BitVec 32 := Scalar.muli v159 c4_i32_80
  let c1_i32_78 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v158 : BitVec 32 := Scalar.subi c1_i32_78 v46
  let c2_i32_81 : BitVec 32 := 2#32
  let v161 : BitVec 32 := Scalar.muli v158 c2_i32_81
  let v162 : BitVec 32 := Scalar.addi v160 v161
  let c0_i32_18 : BitVec 32 := 0#32
  let v48 : BitVec 1 := Scalar.cmpi .sgt v29 c0_i32_18
  let v49 : BitVec 32 := Scalar.extui v48
  let c0_i32_19 : BitVec 32 := 0#32
  let v50 : BitVec 1 := Scalar.cmpi .slt v29 c0_i32_19
  let v51 : BitVec 32 := Scalar.extui v50
  let v52 : BitVec 32 := Scalar.subi v49 v51
  let c2_i32_17 : BitVec 32 := 2#32
  let c0_i32_20 : BitVec 32 := 0#32
  let v53 : BitVec 1 := Scalar.cmpi .sgt c2_i32_17 c0_i32_20
  let v54 : BitVec 32 := Scalar.extui v53
  let c0_i32_21 : BitVec 32 := 0#32
  let v55 : BitVec 1 := Scalar.cmpi .slt c2_i32_17 c0_i32_21
  let v56 : BitVec 32 := Scalar.extui v55
  let v57 : BitVec 32 := Scalar.subi v54 v56
  let v58 : BitVec 1 := Scalar.cmpi .ne v52 v57
  let v59 : BitVec 32 := Scalar.remsi v29 c2_i32_17
  let c0_i32_22 : BitVec 32 := 0#32
  let v60 : BitVec 1 := Scalar.cmpi .ne v59 c0_i32_22
  let v61 : BitVec 1 := Scalar.andi v58 v60
  let v47 : BitVec 32 := Scalar.divsi v29 c2_i32_17
  let c1_i32_23 : BitVec 32 := 1#32
  let v62 : BitVec 32 := Scalar.subi v47 c1_i32_23
  let v63 : BitVec 32 := Scalar.select v61 v62 v47
  let v64 : BitVec 32 := Scalar.addi v63 v29
  let c2_i32_24 : BitVec 32 := 2#32
  let c0_i32_25 : BitVec 32 := 0#32
  let v65 : BitVec 1 := Scalar.cmpi .eq c2_i32_24 c0_i32_25
  let c1_i32_26 : BitVec 32 := 1#32
  let v66 : BitVec 32 := Scalar.select v65 c1_i32_26 c2_i32_24
  let v67 : BitVec 32 := Scalar.remsi v64 v66
  let c0_i32_28 : BitVec 32 := 0#32
  let v69 : BitVec 1 := Scalar.cmpi .slt v67 c0_i32_28
  let c0_i32_29 : BitVec 32 := 0#32
  let v70 : BitVec 1 := Scalar.cmpi .slt v66 c0_i32_29
  let v71 : BitVec 1 := Scalar.xori v69 v70
  let c0_i32_27 : BitVec 32 := 0#32
  let v68 : BitVec 1 := Scalar.cmpi .ne v67 c0_i32_27
  let v72 : BitVec 1 := Scalar.andi v71 v68
  let v73 : BitVec 32 := Scalar.addi v67 v66
  let v74 : BitVec 32 := Scalar.select v72 v73 v67
  let v163 : BitVec 32 := Scalar.addi v74 v158
  let c2_i32_82 : BitVec 32 := 2#32
  let c0_i32_83 : BitVec 32 := 0#32
  let v164 : BitVec 1 := Scalar.cmpi .eq c2_i32_82 c0_i32_83
  let c1_i32_84 : BitVec 32 := 1#32
  let v165 : BitVec 32 := Scalar.select v164 c1_i32_84 c2_i32_82
  let v166 : BitVec 32 := Scalar.remsi v163 v165
  let c0_i32_86 : BitVec 32 := 0#32
  let v168 : BitVec 1 := Scalar.cmpi .slt v166 c0_i32_86
  let c0_i32_87 : BitVec 32 := 0#32
  let v169 : BitVec 1 := Scalar.cmpi .slt v165 c0_i32_87
  let v170 : BitVec 1 := Scalar.xori v168 v169
  let c0_i32_85 : BitVec 32 := 0#32
  let v167 : BitVec 1 := Scalar.cmpi .ne v166 c0_i32_85
  let v171 : BitVec 1 := Scalar.andi v170 v167
  let v172 : BitVec 32 := Scalar.addi v166 v165
  let v173 : BitVec 32 := Scalar.select v171 v172 v166
  let v174 : BitVec 32 := Scalar.addi v162 v173
  let c512_i32_291 : BitVec 32 := 512#32
  let v377 : BitVec 32 := Scalar.muli v174 c512_i32_291
  let v378 : Index := Scalar.indexCast v377
  let c0_292 : Index := 0#32
  ![v378.toNat, 0]
def k0_off8 (d0 : Dev nD) : Fin 2 → Nat :=
  let c1_i32_89 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v176 : BitVec 32 := Scalar.subi c1_i32_89 v19
  let c4_i32_90 : BitVec 32 := 4#32
  let v177 : BitVec 32 := Scalar.muli v176 c4_i32_90
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_91 : BitVec 32 := 2#32
  let v178 : BitVec 32 := Scalar.muli v46 c2_i32_91
  let v179 : BitVec 32 := Scalar.addi v177 v178
  let c1_i32_88 : BitVec 32 := 1#32
  let c0_i32_18 : BitVec 32 := 0#32
  let v48 : BitVec 1 := Scalar.cmpi .sgt v29 c0_i32_18
  let v49 : BitVec 32 := Scalar.extui v48
  let c0_i32_19 : BitVec 32 := 0#32
  let v50 : BitVec 1 := Scalar.cmpi .slt v29 c0_i32_19
  let v51 : BitVec 32 := Scalar.extui v50
  let v52 : BitVec 32 := Scalar.subi v49 v51
  let c2_i32_17 : BitVec 32 := 2#32
  let c0_i32_20 : BitVec 32 := 0#32
  let v53 : BitVec 1 := Scalar.cmpi .sgt c2_i32_17 c0_i32_20
  let v54 : BitVec 32 := Scalar.extui v53
  let c0_i32_21 : BitVec 32 := 0#32
  let v55 : BitVec 1 := Scalar.cmpi .slt c2_i32_17 c0_i32_21
  let v56 : BitVec 32 := Scalar.extui v55
  let v57 : BitVec 32 := Scalar.subi v54 v56
  let v58 : BitVec 1 := Scalar.cmpi .ne v52 v57
  let v59 : BitVec 32 := Scalar.remsi v29 c2_i32_17
  let c0_i32_22 : BitVec 32 := 0#32
  let v60 : BitVec 1 := Scalar.cmpi .ne v59 c0_i32_22
  let v61 : BitVec 1 := Scalar.andi v58 v60
  let v47 : BitVec 32 := Scalar.divsi v29 c2_i32_17
  let c1_i32_23 : BitVec 32 := 1#32
  let v62 : BitVec 32 := Scalar.subi v47 c1_i32_23
  let v63 : BitVec 32 := Scalar.select v61 v62 v47
  let v64 : BitVec 32 := Scalar.addi v63 v29
  let c2_i32_24 : BitVec 32 := 2#32
  let c0_i32_25 : BitVec 32 := 0#32
  let v65 : BitVec 1 := Scalar.cmpi .eq c2_i32_24 c0_i32_25
  let c1_i32_26 : BitVec 32 := 1#32
  let v66 : BitVec 32 := Scalar.select v65 c1_i32_26 c2_i32_24
  let v67 : BitVec 32 := Scalar.remsi v64 v66
  let c0_i32_28 : BitVec 32 := 0#32
  let v69 : BitVec 1 := Scalar.cmpi .slt v67 c0_i32_28
  let c0_i32_29 : BitVec 32 := 0#32
  let v70 : BitVec 1 := Scalar.cmpi .slt v66 c0_i32_29
  let v71 : BitVec 1 := Scalar.xori v69 v70
  let c0_i32_27 : BitVec 32 := 0#32
  let v68 : BitVec 1 := Scalar.cmpi .ne v67 c0_i32_27
  let v72 : BitVec 1 := Scalar.andi v71 v68
  let v73 : BitVec 32 := Scalar.addi v67 v66
  let v74 : BitVec 32 := Scalar.select v72 v73 v67
  let v175 : BitVec 32 := Scalar.subi c1_i32_88 v74
  let v180 : BitVec 32 := Scalar.addi v175 v46
  let c2_i32_92 : BitVec 32 := 2#32
  let c0_i32_93 : BitVec 32 := 0#32
  let v181 : BitVec 1 := Scalar.cmpi .eq c2_i32_92 c0_i32_93
  let c1_i32_94 : BitVec 32 := 1#32
  let v182 : BitVec 32 := Scalar.select v181 c1_i32_94 c2_i32_92
  let v183 : BitVec 32 := Scalar.remsi v180 v182
  let c0_i32_96 : BitVec 32 := 0#32
  let v185 : BitVec 1 := Scalar.cmpi .slt v183 c0_i32_96
  let c0_i32_97 : BitVec 32 := 0#32
  let v186 : BitVec 1 := Scalar.cmpi .slt v182 c0_i32_97
  let v187 : BitVec 1 := Scalar.xori v185 v186
  let c0_i32_95 : BitVec 32 := 0#32
  let v184 : BitVec 1 := Scalar.cmpi .ne v183 c0_i32_95
  let v188 : BitVec 1 := Scalar.andi v187 v184
  let v189 : BitVec 32 := Scalar.addi v183 v182
  let v190 : BitVec 32 := Scalar.select v188 v189 v183
  let v191 : BitVec 32 := Scalar.addi v179 v190
  let c512_i32_308 : BitVec 32 := 512#32
  let v392 : BitVec 32 := Scalar.muli v191 c512_i32_308
  let v393 : Index := Scalar.indexCast v392
  let c0_309 : Index := 0#32
  ![v393.toNat, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x256 : Shape := ⟨2, ![4096, 256]⟩
abbrev S256x512 : Shape := ⟨2, ![256, 512]⟩
abbrev S4096x512 : Shape := ⟨2, ![4096, 512]⟩

abbrev nBuf : Space → Nat
  | .hbm => 3
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x512, .f32⟩
  | .hbm, ⟨2, _⟩ => ⟨S4096x512, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Cube.lean ====
/-
# The exchange on the cube: who talks to whom, over which buffers and semaphores

Eight devices gather eight blocks of `A`. Device `c` keeps its own block in slot 0 of an eight-slot buffer and
fills the other seven slots by seven copies from four neighbours, each copy landing in the slot after its number.
This file names the neighbours, the slots, the semaphore cells and what each slot holds when the gathering is done;
every later file speaks in these names only.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The neighbours -/

/-- The device whose number differs from `c`'s in exactly the bits of `k`. -/
def flip (k : ℕ) (c : Dev nD) : Dev nD := Fin.ofNat 8 (c.val ^^^ k)

/-- The four neighbours of a device: the three along the cube's edges (as devices are numbered on it, the bits 1, 3
    and 4 apart) and the one across (6). -/
def peer (p : Fin 4) (c : Dev nD) : Dev nD := flip ((![1, 3, 4, 6] : Fin 4 → ℕ) p) c

/-- Where the block ends up in slot `s` of device `c` comes from. -/
def src (c : Dev nD) (s : Fin 8) : Dev nD := flip ((![0, 1, 3, 4, 6, 2, 7, 5] : Fin 8 → ℕ) s) c

/-- Copy `j` goes to this neighbour, -/
def dir (j : Fin 7) : Fin 4 := (![0, 1, 2, 3, 0, 1, 2] : Fin 7 → Fin 4) j
/-- from this slot of the sender's buffer, -/
def srcSlot (j : Fin 7) : Fin 8 := (![0, 0, 0, 0, 2, 3, 1] : Fin 7 → Fin 8) j
/-- to slot `j + 1` of the receiver's: device `c` sends copy `j` to -/
def tgt (c : Dev nD) (j : Fin 7) : Dev nD := peer (dir j) c

/-- Being a neighbour in direction `p` is mutual. -/
theorem peer_peer (p : Fin 4) (c : Dev nD) : peer p (peer p c) = c := by revert p c; decide +kernel
/-- Whoever `c` sends copy `j` to sends its own copy `j` to `c`. -/
theorem tgt_tgt (c : Dev nD) (j : Fin 7) : tgt (tgt c j) j = c := peer_peer _ _
/-- Slot 0 holds the device's own block. -/
theorem src_zero (c : Dev nD) : src c 0 = c := by revert c; decide +kernel
/-- A copy brings the block its landing slot is meant to hold. -/
theorem src_tgt (c : Dev nD) (j : Fin 7) : src (tgt c j) j.succ = src c (srcSlot j) := by revert c j; decide +kernel
/-- The eight slots of a device hold the blocks of eight different devices. -/
theorem src_inj (c : Dev nD) : Function.Injective (src c) := by revert c; decide +kernel
/-- Every device's block is in some slot. -/
theorem src_surj (c d : Dev nD) : ∃ s, src c s = d := by revert c d; decide +kernel

/-- Exchanging with the neighbour in direction `p`, as a permutation of the devices. -/
def swap (p : Fin 4) : Dev nD ≃ Dev nD := ⟨peer p, peer p, peer_peer p, peer_peer p⟩

/-! The devices the kernel's arithmetic names are these neighbours, and the rows it stores to are these blocks'. -/

theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 3 c := by revert c; decide +kernel
theorem dev5_eq (c : Dev nD) : (⟨k0_dev5 c, k0_dev5_lt c⟩ : Dev nD) = tgt c 0 := by revert c; decide +kernel
theorem dev6_eq (c : Dev nD) : (⟨k0_dev6 c, k0_dev6_lt c⟩ : Dev nD) = tgt c 1 := by revert c; decide +kernel
theorem dev7_eq (c : Dev nD) : (⟨k0_dev7 c, k0_dev7_lt c⟩ : Dev nD) = tgt c 2 := by revert c; decide +kernel
theorem dev8_eq (c : Dev nD) : (⟨k0_dev8 c, k0_dev8_lt c⟩ : Dev nD) = tgt c 3 := by revert c; decide +kernel
theorem dev9_eq (c : Dev nD) : (⟨k0_dev9 c, k0_dev9_lt c⟩ : Dev nD) = tgt c 6 := by revert c; decide +kernel
theorem dev10_eq (c : Dev nD) : (⟨k0_dev10 c, k0_dev10_lt c⟩ : Dev nD) = tgt c 4 := by revert c; decide +kernel
theorem dev11_eq (c : Dev nD) : (⟨k0_dev11 c, k0_dev11_lt c⟩ : Dev nD) = tgt c 5 := by revert c; decide +kernel
theorem off1_eq (c : Dev nD) : k0_off1 c = ![512 * (src c 0).val, 0] := by revert c; decide +kernel
theorem off2_eq (c : Dev nD) : k0_off2 c = ![512 * (src c 1).val, 0] := by revert c; decide +kernel
theorem off3_eq (c : Dev nD) : k0_off3 c = ![512 * (src c 2).val, 0] := by revert c; decide +kernel
theorem off4_eq (c : Dev nD) : k0_off4 c = ![512 * (src c 3).val, 0] := by revert c; decide +kernel
theorem off5_eq (c : Dev nD) : k0_off5 c = ![512 * (src c 4).val, 0] := by revert c; decide +kernel
theorem off6_eq (c : Dev nD) : k0_off6 c = ![512 * (src c 5).val, 0] := by revert c; decide +kernel
theorem off7_eq (c : Dev nD) : k0_off7 c = ![512 * (src c 6).val, 0] := by revert c; decide +kernel
theorem off8_eq (c : Dev nD) : k0_off8 c = ![512 * (src c 7).val, 0] := by revert c; decide +kernel

/-! ## The buffers -/

abbrev aM : Memref sig .tc .vmem S512x256 .f32 := Memref.whole cc0_stg0_0
abbrev bM : Memref sig .tc .vmem S256x512 .f32 := Memref.whole cc0_stg1_0
abbrev outM : Memref sig .tc .vmem S4096x512 .f32 := Memref.whole cc0_stg2_0
abbrev slotsM : Memref sig .tc .vmem S8x512x256 .bf16 := Memref.whole cc0_scratch0
abbrev b16M : Memref sig .tc .vmem S256x512 .bf16 := Memref.whole cc0_scratch1

theorem slot_inb (s : Fin 8) : ∀ a, (![s.val, 0, 0] : Fin 3 → Nat) a + S1x512x256.size a ≤ S8x512x256.size a := by
  revert s; decide
theorem sem_inb (j : Fin 7) : ∀ a, (![j.val] : Fin 1 → Nat) a + S1.size a ≤ S7.size a := by revert j; decide

/-- Slot `s`, as a rectangle of the eight-slot buffer, -/
abbrev slotRect (s : Fin 8) : Rect S8x512x256 := Rect.unit (s := S8x512x256) ![s.val, 0, 0] S1x512x256.size (slot_inb s)
/-- and as the buffer a copy reads or writes. -/
abbrev slotM (s : Fin 8) : Memref sig .tc .vmem S512x256 .bf16 :=
  (slotsM.slice (slotRect s) (fun _ => rfl)).squeeze S512x256 squeezes_S1x512x256_S512x256

/-- The elements of slot `s`. -/
abbrev slotSet (s : Fin 8) : Finset S8x512x256.Idx := (slotRect s).set

theorem slotM_set (s : Fin 8) : (slotM s).view.set = slotSet s :=
  (View.set_reshape _ _).trans (View.set_slice_whole cc0_scratch0 (slotRect s))

/-- Different slots share no element, -/
theorem slots_disjoint (s t : Fin 8) (h : s ≠ t) : Disjoint (slotSet s) (slotSet t) :=
  Ring.lead_disjoint (s := S8x512x256) (0 : Fin 3) 1 (fun b : Fin 8 => ![b.val, 0, 0]) S1x512x256.size slot_inb
    (fun b => (Nat.one_mul _).symm) rfl s t h
/-- and together they are the buffer. -/
theorem slots_cover : Finset.univ.biUnion slotSet = Finset.univ :=
  Ring.lead_cover (s := S8x512x256) (0 : Fin 3) 1 (fun b : Fin 8 => ![b.val, 0, 0]) S1x512x256.size slot_inb
    (fun b => (Nat.one_mul _).symm) (fun b a ha => by fin_cases a <;> first | exact absurd rfl ha | rfl) rfl
    (fun a ha => by fin_cases a <;> first | exact absurd rfl ha | rfl) rfl

/-! ## The semaphores -/

/-- The barrier semaphore, and the semaphores copy `j` posts at its sender and at its receiver. -/
abbrev barS : Sem sig := (SemArray.scalar (sig.barrier 0 rfl) : Sems sig S_).sem
abbrev sendS (j : Fin 7) : DmaSem sig :=
  ((cc0_scratch2.slice (Rect.unit (s := S7) ![j.val] S1.size (sem_inb j))).squeeze S_ squeezes_S1_S_).sem
abbrev recvS (j : Fin 7) : DmaSem sig :=
  ((cc0_scratch3.slice (Rect.unit (s := S7) ![j.val] S1.size (sem_inb j))).squeeze S_ squeezes_S1_S_).sem

/-- A copy's two semaphores: on the left the sender's for each copy, on the right the receiver's. -/
abbrev Port : Type := Fin 7 ⊕ Fin 7
/-- A device's semaphores: the barrier and the ports. -/
abbrev Cell : Type := Unit ⊕ Port

abbrev portSem : Port → SemLoc sig
  | .inl j => .dma (sendS j)
  | .inr j => .dma (recvS j)
abbrev cellSem : Cell → SemLoc sig
  | .inl _ => .reg barS
  | .inr p => portSem p

theorem cellSem_inj : Function.Injective cellSem := by decide +kernel

/-- Which of the cells a semaphore is, if any. -/
def cellOfSem (s : SemLoc sig) : Option Cell := Function.partialInv cellSem s
theorem cellOfSem_cellSem (k : Cell) : cellOfSem (cellSem k) = some k := Function.partialInv_left cellSem_inj k

abbrev kcell (ck : Dev nD × Cell) : GSem nD τ sig := ((ck.1 : Thread nD τ), cellSem ck.2)
abbrev barCell (c : Dev nD) : GSem nD τ sig := kcell (c, .inl ())
abbrev sendCell (c : Dev nD) (j : Fin 7) : GSem nD τ sig := kcell (c, .inr (.inl j))
abbrev recvCell (c : Dev nD) (j : Fin 7) : GSem nD τ sig := kcell (c, .inr (.inr j))

theorem kcell_inj : Function.Injective kcell := fun ⟨c, k⟩ ⟨c', k'⟩ h => by
  have h₁ : c = c' := congrArg (fun g : GSem nD τ sig => g.1.1) h
  have h₂ : k = k' := cellSem_inj (congrArg (fun g : GSem nD τ sig => g.2) h)
  rw [h₁, h₂]

/-- What a copy's arrival adds to a semaphore: the credit of one slot. -/
abbrev N : ℕ := (slotM 0).view.dmaCredit
theorem N_pos : 0 < N := View.dmaCredit_pos _ (by decide)
theorem slot_credit (s : Fin 8) : (slotM s).view.dmaCredit = N := rfl

/-! ## What the buffers hold -/

variable (A : Dev nD → Vec F S512x256 .f32) (B : Dev nD → Vec F S256x512 .f32)

/-- The place of an element of the eight-slot buffer within its slot. -/
def inSlot (i : S8x512x256.Idx) : S1x512x256.Idx
  | ⟨0, _⟩ => ⟨0, Nat.one_pos⟩
  | ⟨1, _⟩ => ⟨(i 1).val, (i 1).isLt⟩
  | ⟨2, _⟩ => ⟨(i 2).val, (i 2).isLt⟩

theorem inSlot_emb (s : Fin 8) (x : S1x512x256.Idx) : inSlot ((slotRect s).emb x) = x := by
  funext a; apply Fin.ext
  have h := Rect.emb_apply (r := slotRect s) x a
  match a with
  | ⟨0, h0⟩ => have := (x ⟨0, h0⟩).isLt; change (x ⟨0, h0⟩).val < 1 at this; show 0 = (x ⟨0, h0⟩).val; omega
  | ⟨1, h1⟩ => exact h.trans (by show 0 + 1 * (x ⟨1, h1⟩).val = _; omega)
  | ⟨2, h2⟩ => exact h.trans (by show 0 + 1 * (x ⟨2, h2⟩).val = _; omega)

theorem slotOf_emb (s : Fin 8) (x : S1x512x256.Idx) : ((slotRect s).emb x 0 : Fin 8) = s := by
  apply Fin.ext
  have h := Rect.emb_apply (r := slotRect s) x 0
  have := (x 0).isLt; change (x 0).val < 1 at this
  rw [h]; show s.val + 1 * (x 0).val = _; omega

/-- The eight-slot buffer of device `c` once gathered: in slot `s` the block of `src c s`, in the copies' format. -/
def gathered (c : Dev nD) : Buf (Elt F) ((c : Thread nD τ).loc cc0_scratch0) :=
  fun i => k0_pay1 (A (src c (i 0))) (inSlot i)

/-- Read through slot `s`: the block of `src c s`. -/
theorem gathered_emb (c : Dev nD) (s : Fin 8) (x : S1x512x256.Idx) :
    gathered A c ((slotRect s).emb x) = k0_pay1 (A (src c s)) x := by
  unfold gathered; rw [inSlot_emb]; congr 3; exact slotOf_emb s x

end Cert.Cube
-- ==== Proof.Schedule.lean ====
/-
# Who hands what to whom

Every semaphore of the exchange is used for one round. This file says, for each, which signals or arrivals it
expects, what comes with each of them, in which order a device pays what it owes, and why no device can wait for
another that waits for it.

- A device tells its four neighbours, through their barrier semaphores, that its landing slots are ready; the signal
  to the neighbour in direction `p` lends that neighbour the slots its copies will land in.
- The arrival of copy `j` gives the receiver slot `j + 1`, holding the block meant for it, and gives the sender back
  the part of the source slot it had lent to the copy.
-/
module

public import proofs.«01_k».proof.Proof.Cube

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (A : Dev nD → Vec F S512x256 .f32) (B : Dev nD → Vec F S256x512 .f32)

/-! ## Slots held, lent and handed over -/

/-- Share `q` of slot `s` of device `c`, the buffer holding `f` there. -/
def slotPts (c : Dev nD) (s : Fin 8) (q : PosShare TreeShare) (f : Buf (Elt F) ((c : Thread nD τ).loc cc0_scratch0)) : sProp 𝕄 :=
  ((c : Thread nD τ).loc cc0_scratch0) ↦[slotSet s]{q} f

/-- Slot `j + 1` of device `c`, where copy `j` lands, holding anything. -/
def landing (c : Dev nD) (j : Fin 7) : sProp 𝕄 := iprop(∃ f, slotPts (F := F) c j.succ fullShare f)

/-- The share of its source slot a copy borrows. A device keeps the left half of every slot it sends from, to compute
    its product from; slot 0's right half is cut in four for the four copies that read it. -/
def lent (j : Fin 7) : PosShare TreeShare :=
  (![fullShare.right.left.left, fullShare.right.left.right, fullShare.right.right.left, fullShare.right.right.right,
     fullShare.right, fullShare.right, fullShare.right] : Fin 7 → PosShare TreeShare) j

/-- What device `d`'s ready signal in direction `p` hands over: its slots that neighbour's copies land in. -/
def readyPay (d : Dev nD) : Fin 4 → sProp 𝕄
  | ⟨0, _⟩ => iprop(landing d 0 ∗ landing d 4)
  | ⟨1, _⟩ => iprop(landing d 1 ∗ landing d 5)
  | ⟨2, _⟩ => iprop(landing d 2 ∗ landing d 6)
  | _ => landing d 3

/-- What a copy's end hands over: to the sender what it lent, to the receiver the landing slot, filled. -/
def portPay (c : Dev nD) : Port → sProp 𝕄
  | .inl j => slotPts c (srcSlot j) (lent j) (gathered A c)
  | .inr j => slotPts c j.succ fullShare (gathered A c)

def cellPay (c : Dev nD) : Cell → Fin 4 → sProp 𝕄
  | .inl _, p => readyPay (peer p c) p
  | .inr q, _ => portPay A c q

instance slotPts_storable (c : Dev nD) (s q f) : BI.Storable (upEmb : UEmb _ 𝕄) (slotPts (F := F) c s q f) := by
  unfold slotPts; infer_instance
instance landing_storable (c : Dev nD) (j) : BI.Storable (upEmb : UEmb _ 𝕄) (landing (F := F) c j) := by
  unfold landing; infer_instance
instance cellPay_storable (c : Dev nD) (k p) : BI.Storable (upEmb : UEmb _ 𝕄) (cellPay A c k p) := by
  unfold cellPay readyPay portPay
  (repeat' split) <;> infer_instance

/-! ## The schedule -/

/-- Four signals reach a barrier semaphore, one from each neighbour; one arrival reaches a port. -/
def cellDuties : Cell → Finset (Fin 4)
  | .inl _ => Finset.univ
  | .inr _ => {0}
/-- A signal counts one, an arrival a slot's credit. -/
def cellAmount : Cell → ℕ
  | .inl _ => 1
  | .inr _ => N

theorem cellAmount_pos : ∀ k, 0 < cellAmount k
  | .inl _ => Nat.one_pos
  | .inr _ => N_pos

/-- The one round of every cell of the exchange; no other semaphore takes part. -/
def sched : Rounds.Schedule (GSem nD τ sig) (Fin 4) 𝕄 where
  duties g r := if r = 0 ∧ g.1.2 = .tc then (cellOfSem g.2).elim ∅ cellDuties else ∅
  unitless _ := False
  amount g _ _ := (cellOfSem g.2).elim 1 cellAmount
  payload g _ p := (cellOfSem g.2).elim iprop(emp) fun k => cellPay A g.1.1 k p
  amount_pos g _ _ _ := by
    cases cellOfSem g.2 with
    | none => exact Nat.one_pos
    | some k => exact cellAmount_pos k

instance sched_payload_storable (g : GSem nD τ sig) (r : ℕ) (p : Fin 4) :
    BI.Storable (upEmb : UEmb _ 𝕄) ((sched A).payload g r p) := by
  show BI.Storable upEmb ((cellOfSem g.2).elim iprop(emp) fun k => cellPay A g.1.1 k p)
  cases cellOfSem g.2 with
  | none => show BI.Storable upEmb (iprop(emp) : sProp 𝕄); infer_instance
  | some k => exact cellPay_storable A g.1.1 k p

section
variable (c : Dev nD) (k : Cell)

theorem duties_cell : (sched A).duties (kcell (c, k)) 0 = cellDuties k := by
  dsimp only [sched]; rw [if_pos ⟨rfl, rfl⟩, cellOfSem_cellSem]; rfl
theorem duties_later (g : GSem nD τ sig) : ∀ r, 1 ≤ r → (sched A).duties g r = ∅ :=
  fun r hr => by dsimp only [sched]; rw [if_neg fun h => by omega]
theorem amount_cell (p : Fin 4) : (sched A).amount (kcell (c, k)) 0 p = cellAmount k := by
  dsimp only [sched]; rw [cellOfSem_cellSem]; rfl
theorem payload_cell (p : Fin 4) : (sched A).payload (kcell (c, k)) 0 p = cellPay A c k p := by
  dsimp only [sched]; rw [cellOfSem_cellSem]; rfl

/-- What a cell expects in all: four units at the barrier, one arrival at a port. -/
def cellTotal : Cell → ℕ
  | .inl _ => 4
  | .inr _ => N

theorem expect_cell : (sched A).expect (kcell (c, k)) 0 = cellTotal k := by
  unfold Schedule.expect Schedule.amountOf
  rw [duties_cell, Finset.sum_congr rfl fun d _ => amount_cell A c k d]
  cases k with
  | inl _ => rfl
  | inr _ => exact Finset.sum_singleton _ _

/-- What the end of a cell's wait brings. -/
theorem rest_cell : bigSep ((sched A).duties (kcell (c, k)) 0 \ ∅) (fun p => (sched A).payload (kcell (c, k)) 0 p)
    = bigSep (cellDuties k) (cellPay A c k) := by
  rw [Finset.sdiff_empty, duties_cell]; exact bigSep_congr fun p _ => payload_cell A c k p

/-- The same four facts at the barrier and at the ports. -/
theorem mem_bar (p : Fin 4) : p ∈ (sched A).duties (barCell c) 0 := by rw [duties_cell]; exact Finset.mem_univ _
theorem mem_port (q : Port) : (0 : Fin 4) ∈ (sched A).duties (kcell (c, .inr q)) 0 := by
  rw [duties_cell]; exact Finset.mem_singleton_self _
theorem pay_bar (p : Fin 4) : (sched A).payload (barCell (peer p c)) 0 p = readyPay c p := by
  rw [payload_cell]; unfold cellPay; dsimp only; rw [peer_peer]
theorem pay_port (q : Port) (p : Fin 4) : (sched A).payload (kcell (c, .inr q)) 0 p = portPay A c q := by
  rw [payload_cell]; rfl
theorem rest_bar : bigSep ((sched A).duties (barCell c) 0 \ ∅) (fun p => (sched A).payload (barCell c) 0 p)
    = iprop(readyPay (peer 0 c) 0 ∗ readyPay (peer 1 c) 1 ∗ readyPay (peer 2 c) 2 ∗ readyPay (peer 3 c) 3) :=
  (rest_cell A c (.inl ())).trans (bigSep_univ_eq_bigSepL [(0 : Fin 4), 1, 2, 3] (by decide) (by decide) _)
theorem rest_port (q : Port) : bigSep ((sched A).duties (kcell (c, .inr q)) 0 \ ∅) (fun p => (sched A).payload (kcell (c, .inr q)) 0 p)
    = portPay A c q := (rest_cell A c (.inr q)).trans bigSep_singleton

end

/-! ## What a device owes, paid in order -/

/-- The debt of a list of payments, the first to be made at its head. -/
def debt : List (GSem nD τ sig × ℕ) → CellTallies nD τ sig Unit
  | [] => 0
  | (g, n) :: l => debt l + tallyAt g () n

/-- Paying the first of the list leaves the rest. -/
theorem debt_cons (g : GSem nD τ sig) (n : ℕ) (l : List (GSem nD τ sig × ℕ)) : debt ((g, n) :: l) = debt l + tallyAt g () n := rfl

/-- Only the cells on the list are owed anything. -/
theorem debt_pos {l : List (GSem nD τ sig × ℕ)} {g : GSem nD τ sig} {u : Unit} (h : 0 < debt l g u) : ∃ n, (g, n) ∈ l := by
  induction l with
  | nil => exact absurd h (Nat.lt_irrefl 0)
  | cons e l ih =>
    obtain ⟨g', n⟩ := e
    change 0 < (debt l + tallyAt g' () n) g u at h
    rw [Pi.add_apply, Finsupp.add_apply, tallyAt_apply] at h
    by_cases hg : g = g' ∧ u = ()
    · exact ⟨n, by rw [hg.1]; exact List.mem_cons_self⟩
    · rw [if_neg hg, Nat.add_zero] at h
      obtain ⟨n', hn'⟩ := ih h
      exact ⟨n', List.mem_cons_of_mem _ hn'⟩

/-- The copies in the order the kernel starts them: the four of its own block, then the three it passes on. -/
abbrev order : List (Fin 7) := [0, 1, 2, 3, 6, 4, 5]

/-- The arrivals device `c` owes for the copies `js`. -/
def arrivals (c : Dev nD) (js : List (Fin 7)) : List (GSem nD τ sig × ℕ) := js.map fun j => (recvCell (tgt c j) j, N)

/-- The payments of device `c`: the four ready signals, then an arrival for each copy. -/
def dues (c : Dev nD) : List (GSem nD τ sig × ℕ) :=
  ([0, 1, 2, 3] : List (Fin 4)).map (fun p => (barCell (peer p c), 1)) ++ arrivals c order

/-! ## Why nobody waits in a circle -/

/-- The later a cell is waited for, the higher: the barrier, the copies of a sender's own block, the copies passed on. The
    senders' ports, waited for when nothing is owed, and the pipeline's own semaphores, waited for before anything is
    awaited here, are lowest. -/
def cellLevel : Cell → ℕ
  | .inl _ => 1
  | .inr (.inl _) => 0
  | .inr (.inr j) => if j.val < 4 then 2 else 3

def lev (g : GSem nD τ sig) (_ : Unit) : ℕ := (cellOfSem g.2).elim 0 cellLevel
def levIx (g : GSem nD τ sig) : Finset Unit := if g.1.2 = .tc then {()} else ∅

theorem levIx_of_ne (g : GSem nD τ sig) (h : g.1.2 ≠ .tc) : levIx g = ∅ := if_neg h
theorem lev_cell (c : Dev nD) (k : Cell) (u : Unit) : lev (kcell (c, k)) u = cellLevel k := by
  unfold lev; rw [cellOfSem_cellSem]; rfl

/-- Arrivals of copies whose receivers' ports are all higher than the cell `k`. -/
theorem arrivals_later (c : Dev nD) (k : Cell) (js : List (Fin 7)) (h : ∀ j ∈ js, cellLevel k < cellLevel (.inr (.inr j))) :
    ∀ e ∈ arrivals c js, e.1.1.2 = .tc ∧ lev (kcell (c, k)) () < lev e.1 () := fun e he => by
  obtain ⟨j, hj, rfl⟩ := List.mem_map.mp he
  exact ⟨rfl, by rw [lev_cell]; exact (h j hj).trans_eq (lev_cell (tgt c j) (.inr (.inr j)) ()).symm⟩

/-- A device may wait on a semaphore lower than every cell it still owes. -/
theorem may_wait (c : Dev nD) (sm : SemLoc sig) (l : List (GSem nD τ sig × ℕ))
    (h : ∀ e ∈ l, e.1.1.2 = .tc ∧ lev ((c : Thread nD τ), sm) () < lev e.1 ()) :
    (levAts levIx lev : sProp 𝕄) ⊢ MayWait (c : Thread nD τ) sm () (debt l) :=
  Pipeline.mayWait_of_levAts (by show () ∈ levIx _; unfold levIx; rw [if_pos rfl]; exact Finset.mem_singleton_self _)
    fun g u hg => by
      obtain ⟨n, hn⟩ := debt_pos hg
      obtain ⟨h₁, h₂⟩ := h _ hn
      exact ⟨by unfold levIx; rw [if_pos h₁]; exact Finset.mem_singleton_self _, h₂⟩

end Cert.Cube
-- ==== Proof.Steps.lean ====
/-
# One step of each kind

The kernel's body is four ready signals, one wait for the neighbours', seven copies started, eight blocks computed,
and a wait for each of the fourteen ports. This file proves each kind of step once, for every direction, copy, slot
and port; the body applies them in program order.
-/
module

public import proofs.«01_k».proof.Proof.Schedule

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (A : Dev nD → Vec F S512x256 .f32) (B : Dev nD → Vec F S256x512 .f32)
variable (K : Dev nD × Cell → ℕ)

/-- Every cell of the exchange is governed by the schedule, under the names `K`, and open for its round. -/
def records : sProp 𝕄 :=
  bigSep Finset.univ fun ck : Dev nD × Cell => iprop(cellInv ER (sched A) (K ck) (kcell ck) ∗ reached ER (kcell ck) 0)

instance records_persistent : BI.Persistent (records A K) := by
  unfold records; infer_instance

theorem records_at (c : Dev nD) (k : Cell) :
    records A K ⊢ iprop(cellInv ER (sched A) (K (c, k)) (kcell (c, k)) ∗ reached ER (kcell (c, k)) 0) :=
  bigSep_elim (Finset.mem_univ (c, k))

/-- Device `c` still owes the payments `l`; which waits it has already made does not matter. -/
def owing (c : Dev nD) (l : List (GSem nD τ sig × ℕ)) : sProp 𝕄 := iprop(∃ W, owes (c : Thread nD τ) (debt l) W)

/-- What device `c` needs to start copy `j`: the landing slot lent by the neighbour, and the right to pay both ends. -/
def copyKit (c : Dev nD) (j : Fin 7) : sProp 𝕄 :=
  iprop(landing (tgt c j) j ∗ dutyTok ER (sendCell c j) 0 0 ∗ dutyTok ER (recvCell (tgt c j) j) 0 0)
/-- The credit for the arrival at a port, which the wait there spends, -/
def portCred (c : Dev nD) (p : Port) : sProp 𝕄 := cred (tallyAt (kcell (c, .inr p)) () N)
/-- the device's place in the port's round, -/
def portPos (c : Dev nD) (p : Port) : sProp 𝕄 := atPos ER (kcell (c, .inr p)) 0 ∅ 0
/-- and, once waited for, the port's semaphore back at zero. -/
def portDone (c : Dev nD) (p : Port) : sProp 𝕄 := semVal (kcell (c, .inr p)) 0

/-! ## Signals and waits -/

/-- A copy out of a gathered slot leaves in its landing slot what the receiver is meant to gather there. -/
theorem landed (c : Dev nD) (j : Fin 7) (fd : Buf (Elt F) ((tgt c j : Thread nD τ).loc cc0_scratch0)) :
    ∀ i ∈ (slotM j.succ).view.set,
      (slotM j.succ).view.write (Elt F) fd ((slotM (srcSlot j)).view.read (Elt F) (gathered A c)) Finset.univ i
        = gathered A (tgt c j) i := fun i hi => by
  obtain ⟨x, -, rfl⟩ := Finset.mem_map.mp hi
  refine (View.write_emb_of_mem _ _ (Finset.mem_univ x)).trans ?_
  show gathered A c ((slotRect (srcSlot j)).emb (Shape.reshapeEquiv _ x)) = gathered A (tgt c j) ((slotRect j.succ).emb (Shape.reshapeEquiv _ x))
  rw [gathered_emb, gathered_emb, src_tgt]

/-- The ready signal in direction `p`: it pays the neighbour's barrier and lends the slots that neighbour writes. -/
theorem signal_step (p : Fin 4) (c n : Dev nD) (hn : n = peer p c) (l : List (GSem nD τ sig × ℕ))
    {α : Type} {Q : α → sProp 𝕄} {k : PUnit → Prog (TpuEff nD τ sig (Elt F) Λ₀ .tc) α} :
    iprop(records A K ∗ owing c ((barCell (peer p c), 1) :: l) ∗ dutyTok ER (barCell (peer p c)) 0 p ∗ readyPay c p)
      ⊢ iprop((owing c l -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS (1#32).toNat) k) Q) := by
  subst hn
  unfold owing
  iintro ⟨#Hrec, ⟨%W, HO⟩, Htok, Hpay⟩ Hk
  ihave Hat := (records_at A K (peer p c) (.inl ())) $$ Hrec
  icases Hat with ⟨#Hinv, #Hr⟩
  iapply (Rounds.wp_signal 𝒱₀ ER (sched A) (c : Thread nD τ) none (dst := (peer p c : Thread nD τ)) (κ := K (peer p c, .inl ()))
      (d := p) (mem_bar A (peer p c) p) ((amount_cell A (peer p c) (.inl ()) p).trans (by decide)) () (debt l) (debt_cons _ _ l))
    $$ [HO Htok Hpay]
  · isplitr; · iexact Hinv
    isplitl [HO]; · iexact HO
    isplitl [Htok]; · iexact Htok
    isplitl [Hpay]
    · iapply (Entails.of_eq (pay_bar A c p).symm); iexact Hpay
    iexact Hr
  iintro HO
  iapply Hk
  iexists W; iexact HO

/-- A remote copy under any schedule, at any two semaphores and views: the share of the source goes to the sender's cell
    and the landing elements, rewritten, to the receiver's. -/
theorem copy_rule (Rd : Rounds.Schedule (GSem nD τ sig) (Fin 4) 𝕄) [∀ g r p, BI.Storable (upEmb : UEmb _ 𝕄) (Rd.payload g r p)]
    (c n : Dev nD) {ms md : Memref sig .tc .vmem S512x256 .bf16} {ss rs : DmaSem sig}
    {hsc : (md : Memref sig (Dev.tc n : Thread nD τ).2.kind .vmem S512x256 .bf16).view.ref.isScScratch = false}
    {hsrc : ms.view.WordExact} {hdst : md.view.WordExact}
    {hsem : DmaTarget.Typed .vmem (.dma rs) (.remote (Dev.tc n : Thread nD τ) md (.dma ss) hsc)}
    {q : PosShare TreeShare} {fs : Buf (Elt F) (ms.view.loc (c : Thread nD τ))} {fd : Buf (Elt F) (md.view.loc (n : Thread nD τ))}
    {κ₁ κ₂ n₀ : ℕ} {O₀ O : CellTallies nD τ sig Unit} {W : Waits sig Unit}
    (hd₁ : 0 ∈ Rd.duties ((c : Thread nD τ), .dma ss) 0) (hd₂ : 0 ∈ Rd.duties ((n : Thread nD τ), .dma rs) 0)
    (hN : md.view.dmaCredit = n₀) (hk₁ : Rd.amount ((c : Thread nD τ), .dma ss) 0 0 = n₀) (hk₂ : Rd.amount ((n : Thread nD τ), .dma rs) 0 0 = n₀)
    (hO : O₀ = O + tallyAt ((n : Thread nD τ), .dma rs) () n₀)
    (hpay₁ : (ms.view.loc (c : Thread nD τ) ↦[ms.view.set]{q} fs) ⊢ Rd.payload ((c : Thread nD τ), .dma ss) 0 0)
    (hpay₂ : (md.view.loc (n : Thread nD τ) ↦[md.view.set]{fullShare} (md.view.write (Elt F) fd (ms.view.read (Elt F) fs) Finset.univ))
      ⊢ Rd.payload ((n : Thread nD τ), .dma rs) 0 0)
    {α : Type} {Q : α → sProp 𝕄} {k : PUnit → Prog (TpuEff nD τ sig (Elt F) Λ₀ .tc) α} :
    iprop(cellInv ER Rd κ₁ ((c : Thread nD τ), .dma ss) ∗ cellInv ER Rd κ₂ ((n : Thread nD τ), .dma rs)
        ∗ (ms.view.loc (c : Thread nD τ) ↦[ms.view.set]{q} fs) ∗ (md.view.loc (n : Thread nD τ) ↦[md.view.set]{fullShare} fd)
        ∗ owes (c : Thread nD τ) O₀ W
        ∗ dutyTok ER ((c : Thread nD τ), .dma ss) 0 0 ∗ reached ER ((c : Thread nD τ), .dma ss) 0
        ∗ dutyTok ER ((n : Thread nD τ), .dma rs) 0 0 ∗ reached ER ((n : Thread nD τ), .dma rs) 0)
      ⊢ iprop(((cred (tallyAt ((c : Thread nD τ), .dma ss) () n₀) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ms (.remote (Dev.tc n : Thread nD τ) md (.dma ss) hsc) (.dma rs) hsrc hdst hsem) k) Q) :=
  Rounds.wp_send_pointsTo 𝒱₀ ER Rd (c : Thread nD τ) none hd₁ hd₂ () () n₀ ((View.amount_dma _ _).trans hN) hk₁ hk₂ O hO
    hpay₁ hpay₂ (hr := Topo.routes_tc c n)

/-- A copy set going: it lends `lent j` of its source slot and the whole of the neighbour's landing slot, and pays the
    arrival there. -/
theorem copy_step (j : Fin 7) (c n : Dev nD) (hn : n = tgt c j) {ms md : Memref sig .tc .vmem S512x256 .bf16}
    (hms : ms = slotM (srcSlot j)) (hmd : md = slotM j.succ) {ss rs : DmaSem sig} (hss : ss = sendS j) (hrs : rs = recvS j)
    {hsc : (md : Memref sig (Dev.tc n : Thread nD τ).2.kind .vmem S512x256 .bf16).view.ref.isScScratch = false}
    {hsrc : ms.view.WordExact} {hdst : md.view.WordExact}
    {hsem : DmaTarget.Typed .vmem (.dma rs) (.remote (Dev.tc n : Thread nD τ) md (.dma ss) hsc)} (js : List (Fin 7))
    {α : Type} {Q : α → sProp 𝕄} {k : PUnit → Prog (TpuEff nD τ sig (Elt F) Λ₀ .tc) α} :
    iprop(records A K ∗ owing c (arrivals c (j :: js)) ∗ slotPts c (srcSlot j) (lent j) (gathered A c) ∗ copyKit (F := F) c j)
      ⊢ iprop(((owing c (arrivals c js) ∗ portCred c (.inl j)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ms (.remote (Dev.tc n : Thread nD τ) md (.dma ss) hsc) (.dma rs) hsrc hdst hsem) k) Q) := by
  subst hn hms hmd hss hrs
  unfold owing copyKit portCred landing slotPts
  iintro ⟨#Hrec, ⟨%W, HO⟩, Hsrc, ⟨%fd, Hdst⟩, Hts, Htr⟩ Hk
  ihave Hat := (records_at A K c (.inr (.inl j))) $$ Hrec
  icases Hat with ⟨#Hinv, #Hr⟩
  ihave Hat' := (records_at A K (tgt c j) (.inr (.inr j))) $$ Hrec
  icases Hat' with ⟨#Hinv', #Hr'⟩
  rw [← slotM_set, ← slotM_set]
  have hback : (((c : Thread nD τ).loc cc0_scratch0) ↦[(slotM (srcSlot j)).view.set]{lent j} gathered A c)
      ⊢ (sched A).payload (sendCell c j) 0 0 := by
    rw [pay_port, slotM_set]; exact Entails.refl _
  have hland : (((tgt c j : Thread nD τ).loc cc0_scratch0) ↦[(slotM j.succ).view.set]{fullShare}
        (slotM j.succ).view.write (Elt F) fd ((slotM (srcSlot j)).view.read (Elt F) (gathered A c)) Finset.univ)
      ⊢ (sched A).payload (recvCell (tgt c j) j) 0 0 := by
    rw [pay_port]
    show _ ⊢ slotPts (tgt c j) j.succ fullShare (gathered A (tgt c j))
    unfold slotPts
    rw [← slotM_set]
    exact Entails.of_eq (pointsTo_congr (landed A c j fd))
  have hgo := copy_rule (sched A) c (tgt c j) (hsc := hsc) (hsrc := hsrc) (hdst := hdst) (hsem := hsem) (k := k) (Q := Q)
    (q := lent j) (fs := gathered A c) (fd := fd) (κ₁ := K (c, .inr (.inl j))) (κ₂ := K (tgt c j, .inr (.inr j))) (W := W)
    (n₀ := N) (O := debt (arrivals c js)) (O₀ := debt (arrivals c (j :: js)))
    (mem_port A c (.inl j)) (mem_port A (tgt c j) (.inr j)) (slot_credit j.succ)
    (amount_cell A c (.inr (.inl j)) 0) (amount_cell A (tgt c j) (.inr (.inr j)) 0) (debt_cons _ _ (arrivals c js)) hback hland
  iapply hgo
    $$ [Hsrc Hdst HO Hts Htr]
  · isplitr; · iexact Hinv
    isplitr; · iexact Hinv'
    isplitl [Hsrc]; · iexact Hsrc
    isplitl [Hdst]; · iexact Hdst
    isplitl [HO]; · iexact HO
    isplitl [Hts]; · iexact Hts
    isplitr; · iexact Hr
    isplitl [Htr]; · iexact Htr
    iexact Hr'
  iintro ⟨Hc, HO⟩
  iapply Hk
  isplitl [HO]; · iexists W; iexact HO
  iexact Hc

/-- The wait for the four neighbours: afterwards the barrier is back at zero and their landing slots are lent. -/
theorem barrier_step (c : Dev nD) (js : List (Fin 7)) (h : ∀ j ∈ js, cellLevel (.inl ()) < cellLevel (.inr (.inr j)))
    {α : Type} {Q : α → sProp 𝕄} {k : PUnit → Prog (TpuEff nD τ sig (Elt F) Λ₀ .tc) α} :
    iprop(records A K ∗ levAts levIx lev ∗ cred (tallyAt (barCell c) () 4) ∗ owing c (arrivals c js) ∗ atPos ER (barCell c) 0 ∅ 0)
      ⊢ iprop(((owing c (arrivals c js) ∗ semVal (barCell c) 0
              ∗ (readyPay (F := F) (peer 0 c) 0 ∗ readyPay (F := F) (peer 1 c) 1 ∗ readyPay (F := F) (peer 2 c) 2 ∗ readyPay (F := F) (peer 3 c) 3))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (4#32).toNat) k) Q) := by
  unfold owing
  iintro ⟨#Hrec, #Hlev, Hc, ⟨%W, HO⟩, Hat⟩ Hk
  ihave Hcell := (records_at A K c (.inl ())) $$ Hrec
  icases Hcell with ⟨#Hinv, #Hr⟩
  iapply (Rounds.wp_wait_rest_token 𝒱₀ ER (sched A) (c : Thread nD τ) none (κ := K (c, .inl ()))
      (wpE_semWait_eq 𝒱₀ (c : Thread nD τ) none Set.univ) (Set.mem_univ _) () (O := debt (arrivals c js)) (W := W) (R := 0) (m := 0) (T := ∅)
      ((Nat.zero_add _).trans (expect_cell A c (.inl ())).symm)) $$ [Hc HO Hat]
  · isplitr; · iexact Hinv
    isplitl [Hc]; · iexact Hc
    isplitl [HO]; · iexact HO
    isplitr; · iapply (may_wait c (.reg barS) _ (arrivals_later c (.inl ()) js h)); iexact Hlev
    iexact Hat
  iintro ⟨HO, Hat, -, Hpay⟩
  imod (Rounds.cell_close ER (sched A) (Set.mem_univ (K (c, .inl ()))) (fun h => h) (R := 0 + 1) (duties_later A (barCell c))) $$ [Hat] with Hz
  · isplitr; · iexact Hinv
    iexact Hat
  iapply Hk
  isplitl [HO]; · iexists _; iexact HO
  isplitl [Hz]; · iexact Hz
  ihave Hp := (Entails.of_eq (rest_bar A c)) $$ Hpay
  iexact Hp

/-- The wait at a port: afterwards its semaphore is back at zero and what the copy's end hands over is held. -/
theorem port_step (p : Port) (c : Dev nD) {sm : DmaSem sig} (hsm : SemLoc.dma sm = portSem p)
    {ms md : Memref sig .tc .vmem S512x256 .bf16} (hmd : ∃ s, md = slotM s) {hsrc : ms.view.WordExact} {hdst : md.view.WordExact}
    (js : List (Fin 7)) (h : ∀ j ∈ js, cellLevel (.inr p) < cellLevel (.inr (.inr j)))
    {α : Type} {Q : α → sProp 𝕄} {k : PUnit → Prog (TpuEff nD τ sig (Elt F) Λ₀ .tc) α} :
    iprop(records A K ∗ levAts levIx lev ∗ owing c (arrivals c js) ∗ portCred (F := F) c p ∗ portPos (F := F) c p)
      ⊢ iprop(((owing c (arrivals c js) ∗ portDone (F := F) c p ∗ portPay A c p)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm ms md hsrc hdst) k) Q) := by
  obtain ⟨s, rfl⟩ := hmd
  unfold owing portCred portPos portDone
  have h := arrivals_later c (.inr p) js h
  rw [show kcell (c, .inr p) = ((c : Thread nD τ), SemLoc.dma sm) from by rw [hsm]] at h ⊢
  iintro ⟨#Hrec, #Hlev, ⟨%W, HO⟩, Hc, Hat⟩ Hk
  ihave Hcell := (records_at A K c (.inr p)) $$ Hrec
  rw [show kcell (c, .inr p) = ((c : Thread nD τ), SemLoc.dma sm) from by rw [hsm]]
  icases Hcell with ⟨#Hinv, #Hr⟩
  iapply (Rounds.wp_wait_rest_token 𝒱₀ ER (sched A) (c : Thread nD τ) none (κ := K (c, .inr p))
      (wpE_waitDma2_eq 𝒱₀ (c : Thread nD τ) none Set.univ) (Set.mem_univ _) () (O := debt (arrivals c js)) (W := W) (R := 0) (m := 0) (T := ∅)
      ((Nat.zero_add _).trans (by rw [hsm]; exact (expect_cell A c (.inr p)).symm))) $$ [Hc HO Hat]
  · isplitr; · iexact Hinv
    isplitl [Hc]; · iexact Hc
    isplitl [HO]; · iexact HO
    isplitr; · iapply (may_wait c (.dma sm) _ h); iexact Hlev
    iexact Hat
  iintro ⟨HO, Hat, -, Hpay⟩
  imod (Rounds.cell_close ER (sched A) (Set.mem_univ (K (c, .inr p))) (fun h => h) (R := 0 + 1) (duties_later A _)) $$ [Hat] with Hz
  · isplitr; · iexact Hinv
    iexact Hat
  iapply Hk
  isplitl [HO]; · iexists _; iexact HO
  isplitl [Hz]; · iexact Hz
  ihave Hp := (Entails.of_eq (show bigSep ((sched A).duties ((c : Thread nD τ), SemLoc.dma sm) 0 \ ∅)
    (fun d => (sched A).payload ((c : Thread nD τ), SemLoc.dma sm) 0 d) = portPay A c p from by rw [hsm]; exact rest_port A c p)) $$ Hpay
  iexact Hp

end Cert.Cube
-- ==== Proof.Blocks.lean ====
/-
# What one block does

The device's own rows go into slot `0` in the copies' format, and the matrix beside them. Then each slot in turn, once it
is filled, is multiplied by the matrix into the rows of the output that belong to the device the slot was filled from.
-/
module

public import proofs.«01_k».proof.Proof.Steps

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Vec F S512x256 .f32) (B : Dev nD → Vec F S256x512 .f32)
/-- The elements of slot `s` a load or a store of the slot touches. -/
theorem slot_access_set (s : Fin 8) : (slotsM.access (slotRect s)).set = slotSet s := View.set_slice_whole cc0_scratch0 (slotRect s)

theorem zero2 : (![0, 0] : Fin 2 → Nat) = fun _ => 0 := funext fun a => by fin_cases a <;> rfl

/-! ## What the output holds -/

/-- The device whose rows element `i` of the output lies in, and its place among those rows. -/
def blockOf (i : S4096x512.Idx) : Dev nD := ⟨(i 0).val / 512, Nat.div_lt_of_lt_mul (i 0).isLt⟩
def inBlock (i : S4096x512.Idx) : S512x512.Idx
  | ⟨0, _⟩ => ⟨(i 0).val % 512, Nat.mod_lt _ (by decide)⟩
  | ⟨1, _⟩ => ⟨(i 1).val, (i 1).isLt⟩

theorem out_inb (d : Dev nD) : ∀ a, (![512 * d.val, 0] : Fin 2 → Nat) a + S512x512.size a ≤ S4096x512.size a := by
  revert d; decide +kernel

/-- The rows of device `d` in the output. -/
abbrev outRect (d : Dev nD) : Rect S4096x512 := Rect.unit (s := S4096x512) ![512 * d.val, 0] S512x512.size (out_inb d)

theorem blockOf_emb (d : Dev nD) (x : S512x512.Idx) : blockOf ((outRect d).emb x) = d := by
  apply Fin.ext
  have h := Rect.emb_apply (r := outRect d) x 0
  have := (x 0).isLt; change (x 0).val < 512 at this
  show ((outRect d).emb x 0).val / 512 = d.val
  rw [h]; show (512 * d.val + 1 * (x 0).val) / 512 = d.val; omega

theorem inBlock_emb (d : Dev nD) (x : S512x512.Idx) : inBlock ((outRect d).emb x) = x := by
  funext a; apply Fin.ext
  have h := Rect.emb_apply (r := outRect d) x a
  match a with
  | ⟨0, h0⟩ =>
    have := (x ⟨0, h0⟩).isLt; change (x ⟨0, h0⟩).val < 512 at this
    show ((outRect d).emb x ⟨0, h0⟩).val % 512 = (x ⟨0, h0⟩).val
    rw [h]; show (512 * d.val + 1 * (x ⟨0, h0⟩).val) % 512 = _; omega
  | ⟨1, h1⟩ => exact h.trans (by show 0 + 1 * (x ⟨1, h1⟩).val = _; omega)

/-- The output written in full: every device's block of rows times the one matrix, in the copies' format. -/
def outVal (b : Vec F S256x512 .f32) : Vec F S4096x512 .f32 :=
  fun i => k0_pay3 (k0_pay1 (A (blockOf i))) (k0_pay2 b) (inBlock i)

theorem outVal_emb (b : Vec F S256x512 .f32) (d : Dev nD) (x : S512x512.Idx) :
    outVal A b ((outRect d).emb x) = k0_pay3 (k0_pay1 (A d)) (k0_pay2 b) x := by
  unfold outVal; rw [blockOf_emb, inBlock_emb]

/-- The output buffer of device `c` holds the blocks of its first `n` slots. -/
def outDone (c : Dev nD) (n : ℕ) : sProp 𝕄 :=
  iprop(∃ f : Vec F S4096x512 .f32, ⌜∀ s : Fin 8, s.val < n → ∀ i, blockOf i = src c s → f i = outVal A (B c) i⌝
    ∗ (((c : Thread nD τ).loc cc0_stg2_0) ↦{fullShare} f))

theorem outDone_zero (c : Dev nD) (f : Vec F S4096x512 .f32) :
    (((c : Thread nD τ).loc cc0_stg2_0) ↦{fullShare} f) ⊢ (outDone A B c 0 : sProp 𝕄) := by
  unfold outDone
  iintro H
  iexists f
  isplitr; · ipureintro; exact fun s h => absurd h (Nat.not_lt_zero _)
  iexact H

theorem outDone_all (c : Dev nD) :
    outDone A B c 8 ⊢ iprop(((c : Thread nD τ).loc cc0_stg2_0) ↦{fullShare} (outVal A (B c) : Vec F S4096x512 .f32)) := by
  unfold outDone
  iintro ⟨%f, %hf, H⟩
  have hall : f = outVal A (B c) := funext fun i => by
    obtain ⟨s, hs⟩ := src_surj c (blockOf i)
    exact hf s s.isLt i hs.symm
  rw [← hall]
  iexact H

/-- The matrix in the copies' format. -/
def b16Pts (c : Dev nD) : sProp 𝕄 := iprop(((c : Thread nD τ).loc cc0_scratch1) ↦{fullShare} (k0_pay2 (B c) : Vec F S256x512 .bf16))

/-- One block: the rows in slot `s` times the matrix, written to the rows of the device they came from. -/
theorem block_step (s : Fin 8) (c : Dev nD) (q : PosShare TreeShare) {off : Fin 2 → Nat} {off' : Fin 3 → Nat}
    (hoff' : off' = ![s.val, 0, 0]) (hoff : off = ![512 * (src c s).val, 0])
    {inb' : ∀ a, off' a + S1x512x256.size a ≤ S8x512x256.size a} {inb : ∀ a, off a + S512x512.size a ≤ S4096x512.size a}
    {inbB : ∀ a, (![0, 0] : Fin 2 → Nat) a + S256x512.size a ≤ S256x512.size a}
    {hl₁ : slotsM.view.LoadsAt (Rect.unit (s := S8x512x256) off' S1x512x256.size inb').toLoadRect}
    {hl₂ : b16M.view.LoadsAt (Rect.unit (s := S256x512) ![0, 0] S256x512.size inbB).toLoadRect}
    {hl₃ : outM.view.LoadsAt (Rect.unit (s := S4096x512) off S512x512.size inb).toLoadRect}
    {hx : (outM.access (Rect.unit (s := S4096x512) off S512x512.size inb)).Stores Finset.univ}
    {hm : (Finset.univ : Finset S512x512.Idx) = Finset.univ ∨ ∀ a, (Rect.unit (s := S4096x512) off S512x512.size inb).stride a = 1}
    {pay : Vec F S1x512x256 .bf16 → Vec F S256x512 .bf16 → FVec F S512x512 .f32} (hpay : pay = k0_pay3)
    {α : Type} {Q : α → sProp 𝕄} {k : PUnit → Prog (TpuEff nD τ sig (Elt F) Λ₀ .tc) α} :
    iprop(slotPts c s q (gathered A c) ∗ b16Pts B c ∗ outDone A B c s.val)
      ⊢ iprop(((slotPts c s q (gathered A c) ∗ b16Pts B c ∗ outDone A B c (s.val + 1))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load slotsM (Rect.unit (s := S8x512x256) off' S1x512x256.size inb').toLoadRect hl₁) fun v =>
                .op (.load b16M (Rect.unit (s := S256x512) ![0, 0] S256x512.size inbB).toLoadRect hl₂) fun w =>
                .op (.load outM (Rect.unit (s := S4096x512) off S512x512.size inb).toLoadRect hl₃) fun _ =>
                .op (.store outM (Rect.unit (s := S4096x512) off S512x512.size inb) (pay v w) Finset.univ hx hm) k) Q) := by
  subst hoff' hoff hpay
  unfold slotPts b16Pts outDone
  iintro ⟨Hs, Hb, %f, %hf, Ho⟩ Hk
  iapply (wp_load_rect 𝒱₀ (c : Thread nD τ) none Set.univ (m := slotsM) (r := slotRect s) (subset_of_eq (slot_access_set s))) $$ Hs
  iintro Hs
  rw [show (slotsM.access (slotRect s)).read (Elt F) (gathered A c) = k0_pay1 (A (src c s)) from
    funext fun x => gathered_emb A c s x]
  iapply (wp_load 𝒱₀ (c : Thread nD τ) none Set.univ (m := b16M) (Finset.subset_univ _)) $$ Hb
  iintro Hb
  rw [show b16M.view.readAt (Elt F) (Rect.unit (s := S256x512) ![0, 0] S256x512.size inbB).toLoadRect (k0_pay2 (B c)) = k0_pay2 (B c) from
    Memref.readAt_unit_zero (Elt F) cc0_scratch1 zero2 _ _]
  iapply (wp_load 𝒱₀ (c : Thread nD τ) none Set.univ (m := outM) (Finset.subset_univ _)) $$ Ho
  iintro Ho
  iapply (wp_store 𝒱₀ (c : Thread nD τ) none Set.univ (m := outM) (r := outRect (src c s)) (Mk := Finset.univ) (Finset.subset_univ _)) $$ Ho
  iintro Ho
  iapply Hk
  isplitl [Hs]; · iexact Hs
  isplitl [Hb]; · iexact Hb
  iexists _
  isplitr
  rotate_left
  · iexact Ho
  ipureintro
  intro t ht i hi
  by_cases hmem : i ∈ (outM.access (outRect (src c s))).setOn Finset.univ
  · obtain ⟨x, -, rfl⟩ := Finset.mem_map.mp hmem
    exact (View.write_emb_of_mem _ _ (Finset.mem_univ x)).trans (outVal_emb A (B c) (src c s) x).symm
  · refine (View.write_of_not_mem _ _ _ hmem).trans (hf t ?_ i hi)
    rcases Nat.lt_succ_iff_lt_or_eq.mp ht with h | h
    · exact h
    · obtain rfl : t = s := Fin.ext h
      refine absurd ?_ hmem
      rw [View.setOn_univ, View.set_slice_whole]
      refine (Rect.mem_set_unit).mpr fun a => ?_
      have h0 : (i 0).val / 512 = (src c t).val := congrArg Fin.val hi
      match a with
      | ⟨0, h0'⟩ => show 512 * (src c t).val ≤ (i 0).val ∧ (i 0).val < 512 * (src c t).val + 512; omega
      | ⟨1, h1⟩ => exact ⟨Nat.zero_le _, by show (i 1).val < 0 + 512; have := (i 1).isLt; change (i 1).val < 512 at this; omega⟩

/-! ## The device's own block -/

/-- The device's own rows and the matrix put into the copies' format: its rows fill slot `0`. -/
theorem stage_step (c : Dev nD)
    {inbA : ∀ a, (![0, 0] : Fin 2 → Nat) a + S512x256.size a ≤ S512x256.size a}
    {inbB : ∀ a, (![0, 0] : Fin 2 → Nat) a + S256x512.size a ≤ S256x512.size a}
    {hl₁ : aM.view.LoadsAt (Rect.unit (s := S512x256) ![0, 0] S512x256.size inbA).toLoadRect}
    {hl₂ : slotsM.view.LoadsAt (slotRect 0).toLoadRect}
    {hx₂ : (slotsM.access (slotRect 0)).Stores Finset.univ} {hm₂ : (Finset.univ : Finset S1x512x256.Idx) = Finset.univ ∨ ∀ a, (slotRect 0).stride a = 1}
    {hl₃ : bM.view.LoadsAt (Rect.unit (s := S256x512) ![0, 0] S256x512.size inbB).toLoadRect}
    {hl₄ : b16M.view.LoadsAt (Rect.unit (s := S256x512) ![0, 0] S256x512.size inbB).toLoadRect}
    {hx₄ : (b16M.access (Rect.unit (s := S256x512) ![0, 0] S256x512.size inbB)).Stores Finset.univ}
    {hm₄ : (Finset.univ : Finset S256x512.Idx) = Finset.univ ∨ ∀ a, (Rect.unit (s := S256x512) ![0, 0] S256x512.size inbB).stride a = 1}
    {α : Type} {Q : α → sProp 𝕄} {k : PUnit → Prog (TpuEff nD τ sig (Elt F) Λ₀ .tc) α} :
    iprop((((c : Thread nD τ).loc cc0_stg0_0) ↦{fullShare} A c) ∗ (∃ f, slotPts c 0 fullShare f)
        ∗ (((c : Thread nD τ).loc cc0_stg1_0) ↦{fullShare} B c) ∗ (∃ f : Vec F S256x512 .bf16, ((c : Thread nD τ).loc cc0_scratch1) ↦{fullShare} f))
      ⊢ iprop((((((c : Thread nD τ).loc cc0_stg0_0) ↦{fullShare} A c) ∗ slotPts c 0 fullShare (gathered A c)
              ∗ (((c : Thread nD τ).loc cc0_stg1_0) ↦{fullShare} B c) ∗ b16Pts B c)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load aM (Rect.unit (s := S512x256) ![0, 0] S512x256.size inbA).toLoadRect hl₁) fun v =>
                .op (.load slotsM (slotRect 0).toLoadRect hl₂) fun _ =>
                .op (.store slotsM (slotRect 0) (k0_pay1 v) Finset.univ hx₂ hm₂) fun _ =>
                .op (.load bM (Rect.unit (s := S256x512) ![0, 0] S256x512.size inbB).toLoadRect hl₃) fun w =>
                .op (.load b16M (Rect.unit (s := S256x512) ![0, 0] S256x512.size inbB).toLoadRect hl₄) fun _ =>
                .op (.store b16M (Rect.unit (s := S256x512) ![0, 0] S256x512.size inbB) (k0_pay2 w) Finset.univ hx₄ hm₄) k) Q) := by
  unfold slotPts b16Pts
  iintro ⟨Ha, ⟨%f, Hs⟩, Hb, ⟨%g, Ht⟩⟩ Hk
  iapply (wp_load 𝒱₀ (c : Thread nD τ) none Set.univ (m := aM) (Finset.subset_univ _)) $$ Ha
  iintro Ha
  rw [show aM.view.readAt (Elt F) (Rect.unit (s := S512x256) ![0, 0] S512x256.size inbA).toLoadRect (A c) = A c from
    Memref.readAt_unit_zero (Elt F) cc0_stg0_0 zero2 _ _]
  iapply (wp_load_rect 𝒱₀ (c : Thread nD τ) none Set.univ (m := slotsM) (r := slotRect 0) (subset_of_eq (slot_access_set 0))) $$ Hs
  iintro Hs
  iapply (wp_store 𝒱₀ (c : Thread nD τ) none Set.univ (m := slotsM) (r := slotRect 0) (Mk := Finset.univ)
    (subset_of_eq ((View.setOn_univ _).trans (slot_access_set 0)))) $$ Hs
  iintro Hs
  iapply (wp_load 𝒱₀ (c : Thread nD τ) none Set.univ (m := bM) (Finset.subset_univ _)) $$ Hb
  iintro Hb
  rw [show bM.view.readAt (Elt F) (Rect.unit (s := S256x512) ![0, 0] S256x512.size inbB).toLoadRect (B c) = B c from
    Memref.readAt_unit_zero (Elt F) cc0_stg1_0 zero2 _ _]
  iapply (wp_load 𝒱₀ (c : Thread nD τ) none Set.univ (m := b16M) (Finset.subset_univ _)) $$ Ht
  iintro Ht
  iapply (wp_store 𝒱₀ (c : Thread nD τ) none Set.univ (m := b16M) (r := Rect.unit (s := S256x512) ![0, 0] S256x512.size inbB)
    (Mk := Finset.univ) (Finset.subset_univ _)) $$ Ht
  iintro Ht
  rw [show (b16M.access (Rect.unit (s := S256x512) ![0, 0] S256x512.size inbB)).write (Elt F) g (k0_pay2 (B c)) Finset.univ = k0_pay2 (B c) from
    Memref.write_access_unit_zero_univ (Elt F) cc0_scratch1 zero2 _ _ _]
  iapply Hk
  isplitl [Ha]; · iexact Ha
  isplitl [Hs]
  · iapply (Entails.of_eq (pointsTo_congr (fun i hi => ?_))); rotate_left
    · iexact Hs
    rw [← slot_access_set] at hi
    obtain ⟨x, -, rfl⟩ := Finset.mem_map.mp hi
    refine (View.write_emb_of_mem _ _ (Finset.mem_univ x)).trans ?_
    exact (show k0_pay1 (A c) x = gathered A c ((slotRect 0).emb x) by rw [gathered_emb, src_zero])
  isplitl [Hb]; · iexact Hb
  iexact Ht

end Cert.Cube
-- ==== Proof.Parts.lean ====
/-
# The parts of the body

The kernel's body, part by part in program order: what each part starts from and what it leaves. Every part is a run of
steps of the kinds proved before, so its proof only names them in order.
-/
module

public import proofs.«01_k».proof.Proof.Blocks

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Vec F S512x256 .f32) (B : Dev nD → Vec F S256x512 .f32)
variable (K : Dev nD × Cell → ℕ)

/-- A filled slot of device `c`, in full; the half kept while the other is lent. -/
abbrev slotFull (c : Dev nD) (s : Fin 8) : sProp 𝕄 := slotPts c s fullShare (gathered A c)
abbrev slotKept (c : Dev nD) (s : Fin 8) : sProp 𝕄 := slotPts c s fullShare.left (gathered A c)
/-- The share of a slot copy `j` borrows. -/
abbrev slotLent (c : Dev nD) (j : Fin 7) : sProp 𝕄 := slotPts c (srcSlot j) (lent j) (gathered A c)

/-- A slot held in full is the half kept and the half to lend; -/
theorem slot_halve (c : Dev nD) (s : Fin 8) :
    slotFull A c s ⊣⊢ iprop(slotKept A c s ∗ slotPts c s fullShare.right (gathered A c)) :=
  pointsTo_share (PosShare.mem_left_op_right fullShare)

/-- slot `0`'s half to lend is what its four copies borrow. -/
theorem slot_quarter (c : Dev nD) :
    slotPts c 0 fullShare.right (gathered A c)
      ⊣⊢ iprop((slotLent A c 0 ∗ slotLent A c 1) ∗ (slotLent A c 2 ∗ slotLent A c 3)) :=
  (pointsTo_share (PosShare.mem_left_op_right fullShare.right)).trans
    (sep_congr (pointsTo_share (PosShare.mem_left_op_right fullShare.right.left))
      (pointsTo_share (PosShare.mem_left_op_right fullShare.right.right)))

/-- An arrival fills its slot in full; a copy's end gives back what it borrowed. -/
theorem port_full (c : Dev nD) (j : Fin 7) (s : Fin 8) (h : s = j.succ) : portPay A c (.inr j) ⊢ slotFull A c s := by
  subst h; exact Entails.refl _
theorem port_lent (c : Dev nD) (j : Fin 7) : portPay A c (.inl j) ⊢ slotLent A c j := Entails.refl _

/-- What a wait at a port needs, the credit aside when it comes from the copy itself. -/
abbrev portWait (c : Dev nD) (p : Port) : sProp 𝕄 := iprop(portCred (F := F) c p ∗ portPos (F := F) c p)

/-- The four ready signals, the wait for the neighbours', and the device's own block put in slot `0`. -/
theorem part6_step (c : Dev nD) (v w x y : BitVec 32) (z : BitVec 32)
    {α : Type} {Q : α → sProp 𝕄} {k : PUnit → Prog (TpuEff nD τ sig (Elt F) Λ₀ .tc) α} :
    iprop(records A K ∗ levAts levIx lev ∗ owing c (dues c)
        ∗ (dutyTok ER (barCell (peer 0 c)) 0 0 ∗ dutyTok ER (barCell (peer 1 c)) 0 1 ∗ dutyTok ER (barCell (peer 2 c)) 0 2 ∗ dutyTok ER (barCell (peer 3 c)) 0 3)
        ∗ (readyPay (F := F) c 0 ∗ readyPay (F := F) c 1 ∗ readyPay (F := F) c 2 ∗ readyPay (F := F) c 3)
        ∗ (cred (tallyAt (barCell c) () 4) ∗ atPos ER (barCell c) 0 ∅ 0)
        ∗ (((c : Thread nD τ).loc cc0_stg0_0) ↦{fullShare} A c) ∗ (∃ f, slotPts c 0 fullShare f)
        ∗ (((c : Thread nD τ).loc cc0_stg1_0) ↦{fullShare} B c) ∗ (∃ f : Vec F S256x512 .bf16, ((c : Thread nD τ).loc cc0_scratch1) ↦{fullShare} f))
      ⊢ iprop(((owing c (arrivals c order) ∗ semVal (barCell c) 0
              ∗ (readyPay (F := F) (peer 0 c) 0 ∗ readyPay (F := F) (peer 1 c) 1 ∗ readyPay (F := F) (peer 2 c) 2 ∗ readyPay (F := F) (peer 3 c) 3)
              ∗ (((c : Thread nD τ).loc cc0_stg0_0) ↦{fullShare} A c) ∗ slotFull A c 0
              ∗ (((c : Thread nD τ).loc cc0_stg1_0) ↦{fullShare} B c) ∗ b16Pts B c)
            -∗ wp frame (wpE (defs₀ (F := F)) 𝒱₀ (c : Thread nD τ) none) Set.univ (k ⟨⟩) Q)
          -∗ wp frame (wpE (defs₀ (F := F)) 𝒱₀ (c : Thread nD τ) none) Set.univ
              (k0_part6 aM (Memref.isWhole_whole _) bM (Memref.isWhole_whole _) outM (Memref.isWhole_whole _) slotsM (Memref.isWhole_whole _)
                b16M (Memref.isWhole_whole _) cc0_scratch2 cc0_scratch3 c v w x y (SemArray.scalar (sig.barrier 0 rfl)) z >>= k) Q) := by
  rw [k0_part6_eq_skeleton]; unfold k0_part6_skel
  simp only [semSignalWord, semWaitWord, Prog.lift, Prog.bind_op, Prog.bind_ret, Prog.pure_eq_ret]
  iintro ⟨#Hrec, #Hlev, HO, ⟨Ht0, Ht1, Ht2, Ht3⟩, ⟨Hr0, Hr1, Hr2, Hr3⟩, ⟨Hc, Hat⟩, Ha, Hs, Hb, Ht⟩ Hk
  rw [show dues c = (barCell (peer 0 c), 1) :: (barCell (peer 1 c), 1) :: (barCell (peer 2 c), 1) :: (barCell (peer 3 c), 1)
    :: arrivals c order from rfl]
  iapply (signal_step A K 0 c _ (dev1_eq c) _) $$ [HO Ht0 Hr0]
  · iframe Hrec HO Ht0 Hr0
  iintro HO
  iapply (signal_step A K 1 c _ (dev2_eq c) _) $$ [HO Ht1 Hr1]
  · iframe Hrec HO Ht1 Hr1
  iintro HO
  iapply (signal_step A K 2 c _ (dev3_eq c) _) $$ [HO Ht2 Hr2]
  · iframe Hrec HO Ht2 Hr2
  iintro HO
  iapply (signal_step A K 3 c _ (dev4_eq c) _) $$ [HO Ht3 Hr3]
  · iframe Hrec HO Ht3 Hr3
  iintro HO
  iapply (barrier_step A K c order (by decide)) $$ [Hc HO Hat]
  · iframe Hrec Hlev Hc HO Hat
  iintro ⟨HO, Hz, Hr⟩
  iapply (stage_step A B c) $$ [Ha Hs Hb Ht]
  · iframe Ha Hs Hb Ht
  iintro ⟨Ha, Hs, Hb, Ht⟩
  iapply Hk
  iframe HO Hz Hr Ha Hs Hb Ht

/-- The first three copies of the device's own block set going. -/
theorem part7_step (c : Dev nD) (v w x : BitVec 32)
    {α : Type} {Q : α → sProp 𝕄} {k : PUnit → Prog (TpuEff nD τ sig (Elt F) Λ₀ .tc) α} :
    iprop(records A K ∗ owing c (arrivals c [0, 1, 2, 3, 6, 4, 5]) ∗ (slotLent A c 0 ∗ slotLent A c 1 ∗ slotLent A c 2)
        ∗ (copyKit (F := F) c 0 ∗ copyKit (F := F) c 1 ∗ copyKit (F := F) c 2))
      ⊢ iprop(((owing c (arrivals c [3, 6, 4, 5]) ∗ portCred (F := F) c (.inl 0) ∗ portCred (F := F) c (.inl 1) ∗ portCred (F := F) c (.inl 2))
            -∗ wp frame (wpE (defs₀ (F := F)) 𝒱₀ (c : Thread nD τ) none) Set.univ (k ⟨⟩) Q)
          -∗ wp frame (wpE (defs₀ (F := F)) 𝒱₀ (c : Thread nD τ) none) Set.univ
              (k0_part7 aM (Memref.isWhole_whole _) bM (Memref.isWhole_whole _) outM (Memref.isWhole_whole _) slotsM (Memref.isWhole_whole _)
                b16M (Memref.isWhole_whole _) cc0_scratch2 cc0_scratch3 c v w x >>= k) Q) := by
  rw [k0_part7_eq_skeleton]; unfold k0_part7_skel
  simp only [semSignalWord, semWaitWord, Prog.lift, Prog.bind_op, Prog.bind_ret, Prog.pure_eq_ret]
  iintro ⟨#Hrec, HO, ⟨Hs0, Hs1, Hs2⟩, Hk0, Hk1, Hk2⟩ Hk
  iapply (copy_step A K 0 c _ (dev5_eq c) rfl rfl rfl rfl [1, 2, 3, 6, 4, 5]) $$ [HO Hs0 Hk0]
  · iframe Hrec HO Hs0 Hk0
  iintro ⟨HO, Hc0⟩
  iapply (copy_step A K 1 c _ (dev6_eq c) rfl rfl rfl rfl [2, 3, 6, 4, 5]) $$ [HO Hs1 Hk1]
  · iframe Hrec HO Hs1 Hk1
  iintro ⟨HO, Hc1⟩
  iapply (copy_step A K 2 c _ (dev7_eq c) rfl rfl rfl rfl [3, 6, 4, 5]) $$ [HO Hs2 Hk2]
  · iframe Hrec HO Hs2 Hk2
  iintro ⟨HO, Hc2⟩
  iapply Hk
  iframe HO Hc0 Hc1 Hc2

/-- The fourth copy of its own block set going, that block computed, and the arrival in slot `1` awaited. -/
theorem part8_step (c : Dev nD) (v w x : BitVec 32)
    {α : Type} {Q : α → sProp 𝕄} {k : PUnit → Prog (TpuEff nD τ sig (Elt F) Λ₀ .tc) α} :
    iprop(records A K ∗ levAts levIx lev ∗ owing c (arrivals c [3, 6, 4, 5]) ∗ (slotLent A c 3 ∗ copyKit (F := F) c 3)
        ∗ slotKept A c 0 ∗ b16Pts B c ∗ outDone A B c 0 ∗ portWait (F := F) c (.inr 0))
      ⊢ iprop(((owing c (arrivals c [6, 4, 5]) ∗ portCred (F := F) c (.inl 3) ∗ slotKept A c 0 ∗ b16Pts B c ∗ outDone A B c 1 ∗ portDone (F := F) c (.inr 0) ∗ slotFull A c 1)
            -∗ wp frame (wpE (defs₀ (F := F)) 𝒱₀ (c : Thread nD τ) none) Set.univ (k ⟨⟩) Q)
          -∗ wp frame (wpE (defs₀ (F := F)) 𝒱₀ (c : Thread nD τ) none) Set.univ
              (k0_part8 aM (Memref.isWhole_whole _) bM (Memref.isWhole_whole _) outM (Memref.isWhole_whole _) slotsM (Memref.isWhole_whole _)
                b16M (Memref.isWhole_whole _) cc0_scratch2 cc0_scratch3 c v w x >>= k) Q) := by
  rw [k0_part8_eq_skeleton]; unfold k0_part8_skel
  simp only [semSignalWord, semWaitWord, Prog.lift, Prog.bind_op, Prog.bind_ret, Prog.pure_eq_ret]
  iintro ⟨#Hrec, #Hlev, HO, ⟨Hs3, Hk3⟩, Hs, Hb, Ho, Hcr, Hpos⟩ Hk
  iapply (copy_step A K 3 c _ (dev8_eq c) rfl rfl rfl rfl [6, 4, 5]) $$ [HO Hs3 Hk3]
  · iframe Hrec HO Hs3 Hk3
  iintro ⟨HO, Hc3⟩
  iapply (block_step A B 0 c _ rfl (off1_eq c) (pay := k0_pay3) rfl) $$ [Hs Hb Ho]
  · iframe Hs Hb Ho
  iintro ⟨Hs, Hb, Ho⟩
  iapply (port_step A K (.inr 0) c rfl ⟨1, rfl⟩ [6, 4, 5] (by decide)) $$ [HO Hcr Hpos]
  · iframe Hrec Hlev HO Hcr Hpos
  iintro ⟨HO, Hd, Hs1⟩
  ihave Hs1 := (port_full A c 0 1 rfl) $$ Hs1
  iapply Hk
  iframe HO Hc3 Hs Hb Ho Hd
  iexact Hs1

/-- Slot `1` passed on and its block computed, and the arrival in slot `2` awaited. -/
theorem part9_step (c : Dev nD) (v w : BitVec 32)
    {α : Type} {Q : α → sProp 𝕄} {k : PUnit → Prog (TpuEff nD τ sig (Elt F) Λ₀ .tc) α} :
    iprop(records A K ∗ levAts levIx lev ∗ owing c (arrivals c [6, 4, 5]) ∗ (slotLent A c 6 ∗ copyKit (F := F) c 6)
        ∗ slotKept A c 1 ∗ b16Pts B c ∗ outDone A B c 1 ∗ portWait (F := F) c (.inr 1))
      ⊢ iprop(((owing c (arrivals c [4, 5]) ∗ portCred (F := F) c (.inl 6) ∗ slotKept A c 1 ∗ b16Pts B c ∗ outDone A B c 2 ∗ portDone (F := F) c (.inr 1) ∗ slotFull A c 2)
            -∗ wp frame (wpE (defs₀ (F := F)) 𝒱₀ (c : Thread nD τ) none) Set.univ (k ⟨⟩) Q)
          -∗ wp frame (wpE (defs₀ (F := F)) 𝒱₀ (c : Thread nD τ) none) Set.univ
              (k0_part9 aM (Memref.isWhole_whole _) bM (Memref.isWhole_whole _) outM (Memref.isWhole_whole _) slotsM (Memref.isWhole_whole _)
                b16M (Memref.isWhole_whole _) cc0_scratch2 cc0_scratch3 c v w >>= k) Q) := by
  rw [k0_part9_eq_skeleton]; unfold k0_part9_skel
  simp only [semSignalWord, semWaitWord, Prog.lift, Prog.bind_op, Prog.bind_ret, Prog.pure_eq_ret]
  iintro ⟨#Hrec, #Hlev, HO, ⟨Hs6, Hk6⟩, Hs, Hb, Ho, Hcr, Hpos⟩ Hk
  iapply (copy_step A K 6 c _ (dev9_eq c) rfl rfl rfl rfl [4, 5]) $$ [HO Hs6 Hk6]
  · iframe Hrec HO Hs6 Hk6
  iintro ⟨HO, Hc6⟩
  iapply (block_step A B 1 c _ rfl (off2_eq c) (pay := k0_pay4) rfl) $$ [Hs Hb Ho]
  · iframe Hs Hb Ho
  iintro ⟨Hs, Hb, Ho⟩
  iapply (port_step A K (.inr 1) c rfl ⟨2, rfl⟩ [4, 5] (by decide)) $$ [HO Hcr Hpos]
  · iframe Hrec Hlev HO Hcr Hpos
  iintro ⟨HO, Hd, Hs2⟩
  ihave Hs2 := (port_full A c 1 2 rfl) $$ Hs2
  iapply Hk
  iframe HO Hc6 Hs Hb Ho Hd
  iexact Hs2

/-- Slot `2` passed on and its block computed, the arrival in slot `3` awaited, and slot `3` passed on. -/
theorem part10_step (c : Dev nD) (v w : BitVec 32)
    {α : Type} {Q : α → sProp 𝕄} {k : PUnit → Prog (TpuEff nD τ sig (Elt F) Λ₀ .tc) α} :
    iprop(records A K ∗ levAts levIx lev ∗ owing c (arrivals c [4, 5]) ∗ (slotLent A c 4 ∗ copyKit (F := F) c 4)
        ∗ slotKept A c 2 ∗ b16Pts B c ∗ outDone A B c 2 ∗ portWait (F := F) c (.inr 2) ∗ copyKit (F := F) c 5)
      ⊢ iprop(((owing c (arrivals c []) ∗ portCred (F := F) c (.inl 4) ∗ portCred (F := F) c (.inl 5) ∗ slotKept A c 2 ∗ b16Pts B c ∗ outDone A B c 3 ∗ portDone (F := F) c (.inr 2) ∗ slotKept A c 3)
            -∗ wp frame (wpE (defs₀ (F := F)) 𝒱₀ (c : Thread nD τ) none) Set.univ (k ⟨⟩) Q)
          -∗ wp frame (wpE (defs₀ (F := F)) 𝒱₀ (c : Thread nD τ) none) Set.univ
              (k0_part10 aM (Memref.isWhole_whole _) bM (Memref.isWhole_whole _) outM (Memref.isWhole_whole _) slotsM (Memref.isWhole_whole _)
                b16M (Memref.isWhole_whole _) cc0_scratch2 cc0_scratch3 c v w >>= k) Q) := by
  rw [k0_part10_eq_skeleton]; unfold k0_part10_skel
  simp only [semSignalWord, semWaitWord, Prog.lift, Prog.bind_op, Prog.bind_ret, Prog.pure_eq_ret]
  iintro ⟨#Hrec, #Hlev, HO, ⟨Hs4, Hk4⟩, Hs, Hb, Ho, ⟨Hcr, Hpos⟩, Hk5⟩ Hk
  iapply (copy_step A K 4 c _ (dev10_eq c) rfl rfl rfl rfl [5]) $$ [HO Hs4 Hk4]
  · iframe Hrec HO Hs4 Hk4
  iintro ⟨HO, Hc4⟩
  iapply (block_step A B 2 c _ rfl (off3_eq c) (pay := k0_pay5) rfl) $$ [Hs Hb Ho]
  · iframe Hs Hb Ho
  iintro ⟨Hs, Hb, Ho⟩
  iapply (port_step A K (.inr 2) c rfl ⟨3, rfl⟩ [5] (by decide)) $$ [HO Hcr Hpos]
  · iframe Hrec Hlev HO Hcr Hpos
  iintro ⟨HO, Hd, Hs3⟩
  ihave Hs3 := (port_full A c 2 3 rfl) $$ Hs3
  ihave Hs3 := (slot_halve A c 3).1 $$ Hs3
  icases Hs3 with ⟨Hs3, Hs5⟩
  iapply (copy_step A K 5 c _ (dev11_eq c) rfl rfl rfl rfl []) $$ [HO Hs5 Hk5]
  · iframe Hrec HO Hs5 Hk5
  iintro ⟨HO, Hc5⟩
  iapply Hk
  iframe HO Hc4 Hc5 Hs Hb Ho Hd Hs3

/-- Slot `3`'s block computed, the arrival in slot `4` awaited, and its block computed. -/
theorem part11_step (c : Dev nD) (v w x : BitVec 32)
    {α : Type} {Q : α → sProp 𝕄} {k : PUnit → Prog (TpuEff nD τ sig (Elt F) Λ₀ .tc) α} :
    iprop(records A K ∗ levAts levIx lev ∗ owing c (arrivals c []) ∗ slotKept A c 3 ∗ b16Pts B c ∗ outDone A B c 3 ∗ portWait (F := F) c (.inr 3))
      ⊢ iprop(((owing c (arrivals c []) ∗ slotKept A c 3 ∗ b16Pts B c ∗ outDone A B c 5 ∗ portDone (F := F) c (.inr 3) ∗ slotFull A c 4)
            -∗ wp frame (wpE (defs₀ (F := F)) 𝒱₀ (c : Thread nD τ) none) Set.univ (k ⟨⟩) Q)
          -∗ wp frame (wpE (defs₀ (F := F)) 𝒱₀ (c : Thread nD τ) none) Set.univ
              (k0_part11 aM (Memref.isWhole_whole _) bM (Memref.isWhole_whole _) outM (Memref.isWhole_whole _) slotsM (Memref.isWhole_whole _)
                b16M (Memref.isWhole_whole _) cc0_scratch2 cc0_scratch3 c v w x >>= k) Q) := by
  rw [k0_part11_eq_skeleton]; unfold k0_part11_skel
  simp only [semSignalWord, semWaitWord, Prog.lift, Prog.bind_op, Prog.bind_ret, Prog.pure_eq_ret]
  iintro ⟨#Hrec, #Hlev, HO, Hs, Hb, Ho, Hcr, Hpos⟩ Hk
  iapply (block_step A B 3 c _ rfl (off4_eq c) (pay := k0_pay6) rfl) $$ [Hs Hb Ho]
  · iframe Hs Hb Ho
  iintro ⟨Hs, Hb, Ho⟩
  iapply (port_step A K (.inr 3) c rfl ⟨4, rfl⟩ [] (by decide)) $$ [HO Hcr Hpos]
  · iframe Hrec Hlev HO Hcr Hpos
  iintro ⟨HO, Hd, Hs4⟩
  ihave Hs4 := (port_full A c 3 4 rfl) $$ Hs4
  iapply (block_step A B 4 c _ rfl (off5_eq c) (pay := k0_pay7) rfl) $$ [Hs4 Hb Ho]
  · iframe Hs4 Hb Ho
  iintro ⟨Hs4, Hb, Ho⟩
  iapply Hk
  iframe HO Hs Hb Ho Hd Hs4

/-- The arrivals in slots `5` and `6` awaited and their blocks computed. -/
theorem part12_step (c : Dev nD) (v w x : BitVec 32)
    {α : Type} {Q : α → sProp 𝕄} {k : PUnit → Prog (TpuEff nD τ sig (Elt F) Λ₀ .tc) α} :
    iprop(records A K ∗ levAts levIx lev ∗ owing c (arrivals c []) ∗ b16Pts B c ∗ outDone A B c 5 ∗ portWait (F := F) c (.inr 4) ∗ portWait (F := F) c (.inr 5))
      ⊢ iprop(((owing c (arrivals c []) ∗ b16Pts B c ∗ outDone A B c 7 ∗ portDone (F := F) c (.inr 4) ∗ portDone (F := F) c (.inr 5) ∗ slotFull A c 5 ∗ slotFull A c 6)
            -∗ wp frame (wpE (defs₀ (F := F)) 𝒱₀ (c : Thread nD τ) none) Set.univ (k ⟨⟩) Q)
          -∗ wp frame (wpE (defs₀ (F := F)) 𝒱₀ (c : Thread nD τ) none) Set.univ
              (k0_part12 aM (Memref.isWhole_whole _) bM (Memref.isWhole_whole _) outM (Memref.isWhole_whole _) slotsM (Memref.isWhole_whole _)
                b16M (Memref.isWhole_whole _) cc0_scratch2 cc0_scratch3 c v w x >>= k) Q) := by
  rw [k0_part12_eq_skeleton]; unfold k0_part12_skel
  simp only [semSignalWord, semWaitWord, Prog.lift, Prog.bind_op, Prog.bind_ret, Prog.pure_eq_ret]
  iintro ⟨#Hrec, #Hlev, HO, Hb, Ho, ⟨Hcr4, Hpos4⟩, Hcr5, Hpos5⟩ Hk
  iapply (port_step A K (.inr 4) c rfl ⟨5, rfl⟩ [] (by decide)) $$ [HO Hcr4 Hpos4]
  · iframe Hrec Hlev HO Hcr4 Hpos4
  iintro ⟨HO, Hd4, Hs5⟩
  ihave Hs5 := (port_full A c 4 5 rfl) $$ Hs5
  iapply (block_step A B 5 c _ rfl (off6_eq c) (pay := k0_pay8) rfl) $$ [Hs5 Hb Ho]
  · iframe Hs5 Hb Ho
  iintro ⟨Hs5, Hb, Ho⟩
  iapply (port_step A K (.inr 5) c rfl ⟨6, rfl⟩ [] (by decide)) $$ [HO Hcr5 Hpos5]
  · iframe Hrec Hlev HO Hcr5 Hpos5
  iintro ⟨HO, Hd5, Hs6⟩
  ihave Hs6 := (port_full A c 5 6 rfl) $$ Hs6
  iapply (block_step A B 6 c _ rfl (off7_eq c) (pay := k0_pay9) rfl) $$ [Hs6 Hb Ho]
  · iframe Hs6 Hb Ho
  iintro ⟨Hs6, Hb, Ho⟩
  iapply Hk
  iframe HO Hb Ho Hd4 Hd5 Hs5 Hs6

/-- The arrival in slot `7` awaited and its block computed; the first copy's end awaited. -/
theorem part13_step (c : Dev nD) (v w : BitVec 32)
    {α : Type} {Q : α → sProp 𝕄} {k : PUnit → Prog (TpuEff nD τ sig (Elt F) Λ₀ .tc) α} :
    iprop(records A K ∗ levAts levIx lev ∗ owing c (arrivals c []) ∗ b16Pts B c ∗ outDone A B c 7 ∗ portWait (F := F) c (.inr 6) ∗ portWait (F := F) c (.inl 0))
      ⊢ iprop(((owing c (arrivals c []) ∗ b16Pts B c ∗ outDone A B c 8 ∗ portDone (F := F) c (.inr 6) ∗ slotFull A c 7 ∗ portDone (F := F) c (.inl 0) ∗ slotLent A c 0)
            -∗ wp frame (wpE (defs₀ (F := F)) 𝒱₀ (c : Thread nD τ) none) Set.univ (k ⟨⟩) Q)
          -∗ wp frame (wpE (defs₀ (F := F)) 𝒱₀ (c : Thread nD τ) none) Set.univ
              (k0_part13 aM (Memref.isWhole_whole _) bM (Memref.isWhole_whole _) outM (Memref.isWhole_whole _) slotsM (Memref.isWhole_whole _)
                b16M (Memref.isWhole_whole _) cc0_scratch2 cc0_scratch3 c v w >>= k) Q) := by
  rw [k0_part13_eq_skeleton]; unfold k0_part13_skel
  simp only [semSignalWord, semWaitWord, Prog.lift, Prog.bind_op, Prog.bind_ret, Prog.pure_eq_ret]
  iintro ⟨#Hrec, #Hlev, HO, Hb, Ho, ⟨Hcr6, Hpos6⟩, Hcr0, Hpos0⟩ Hk
  iapply (port_step A K (.inr 6) c rfl ⟨7, rfl⟩ [] (by decide)) $$ [HO Hcr6 Hpos6]
  · iframe Hrec Hlev HO Hcr6 Hpos6
  iintro ⟨HO, Hd6, Hs7⟩
  ihave Hs7 := (port_full A c 6 7 rfl) $$ Hs7
  iapply (block_step A B 7 c _ rfl (off8_eq c) (pay := k0_pay10) rfl) $$ [Hs7 Hb Ho]
  · iframe Hs7 Hb Ho
  iintro ⟨Hs7, Hb, Ho⟩
  iapply (port_step A K (.inl 0) c rfl ⟨0, rfl⟩ [] (by decide)) $$ [HO Hcr0 Hpos0]
  · iframe Hrec Hlev HO Hcr0 Hpos0
  iintro ⟨HO, Hd0, Hs0⟩
  ihave Hs0 := (port_lent A c 0) $$ Hs0
  iapply Hk
  iframe HO Hb Ho Hd6 Hs7 Hd0
  iexact Hs0

/-- The ends of the next four copies awaited. -/
theorem part14_step (c : Dev nD)
    {α : Type} {Q : α → sProp 𝕄} {k : PUnit → Prog (TpuEff nD τ sig (Elt F) Λ₀ .tc) α} :
    iprop(records A K ∗ levAts levIx lev ∗ owing c (arrivals c []) ∗ portWait (F := F) c (.inl 1) ∗ portWait (F := F) c (.inl 2) ∗ portWait (F := F) c (.inl 3) ∗ portWait (F := F) c (.inl 4))
      ⊢ iprop(((owing c (arrivals c []) ∗ portDone (F := F) c (.inl 1) ∗ portDone (F := F) c (.inl 2) ∗ portDone (F := F) c (.inl 3) ∗ portDone (F := F) c (.inl 4) ∗ slotLent A c 1 ∗ slotLent A c 2 ∗ slotLent A c 3 ∗ slotLent A c 4)
            -∗ wp frame (wpE (defs₀ (F := F)) 𝒱₀ (c : Thread nD τ) none) Set.univ (k ⟨⟩) Q)
          -∗ wp frame (wpE (defs₀ (F := F)) 𝒱₀ (c : Thread nD τ) none) Set.univ
              (k0_part14 aM (Memref.isWhole_whole _) bM (Memref.isWhole_whole _) outM (Memref.isWhole_whole _) slotsM (Memref.isWhole_whole _)
                b16M (Memref.isWhole_whole _) cc0_scratch2 cc0_scratch3 >>= k) Q) := by
  rw [k0_part14_eq_skeleton]; unfold k0_part14_skel
  simp only [semSignalWord, semWaitWord, Prog.lift, Prog.bind_op, Prog.bind_ret, Prog.pure_eq_ret]
  iintro ⟨#Hrec, #Hlev, HO, ⟨Hcr1, Hpos1⟩, ⟨Hcr2, Hpos2⟩, ⟨Hcr3, Hpos3⟩, Hcr4, Hpos4⟩ Hk
  iapply (port_step A K (.inl 1) c rfl ⟨0, rfl⟩ [] (by decide)) $$ [HO Hcr1 Hpos1]
  · iframe Hrec Hlev HO Hcr1 Hpos1
  iintro ⟨HO, Hd1, Hs1⟩
  ihave Hs1 := (port_lent A c 1) $$ Hs1
  iapply (port_step A K (.inl 2) c rfl ⟨0, rfl⟩ [] (by decide)) $$ [HO Hcr2 Hpos2]
  · iframe Hrec Hlev HO Hcr2 Hpos2
  iintro ⟨HO, Hd2, Hs2⟩
  ihave Hs2 := (port_lent A c 2) $$ Hs2
  iapply (port_step A K (.inl 3) c rfl ⟨0, rfl⟩ [] (by decide)) $$ [HO Hcr3 Hpos3]
  · iframe Hrec Hlev HO Hcr3 Hpos3
  iintro ⟨HO, Hd3, Hs3⟩
  ihave Hs3 := (port_lent A c 3) $$ Hs3
  iapply (port_step A K (.inl 4) c rfl ⟨2, rfl⟩ [] (by decide)) $$ [HO Hcr4 Hpos4]
  · iframe Hrec Hlev HO Hcr4 Hpos4
  iintro ⟨HO, Hd4, Hs4⟩
  ihave Hs4 := (port_lent A c 4) $$ Hs4
  iapply Hk
  iframe HO Hd1 Hd2 Hd3 Hd4
  isplitl [Hs1]; · iexact Hs1
  isplitl [Hs2]; · iexact Hs2
  isplitl [Hs3]; · iexact Hs3
  iexact Hs4

end Cert.Cube
-- ==== Proof.Body.lean ====
/-
# The body

The kernel's body on one device, from what it starts with to what it leaves: the arithmetic on the device's number that
precedes the exchange does nothing, and the parts follow one another.
-/
module

public import proofs.«01_k».proof.Proof.Parts

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Vec F S512x256 .f32) (B : Dev nD → Vec F S256x512 .f32)
variable (K : Dev nD × Cell → ℕ)

/-! ## The arithmetic before the exchange -/

/-- The first part asks for the device's number and returns it, with values computed from it; -/
theorem part1_ret : ∃ g : Dev nD → Σ' (_ : BitVec 32) (_ : BitVec 32) (_ : BitVec 32) (_ : BitVec 32) (_ : BitVec 32) (_ : BitVec 32) (_ : BitVec 32), BitVec 1,
    k0_part1 (F := F) aM (Memref.isWhole_whole _) bM (Memref.isWhole_whole _) outM (Memref.isWhole_whole _) slotsM (Memref.isWhole_whole _)
      b16M (Memref.isWhole_whole _) cc0_scratch2 cc0_scratch3 = .op .deviceId fun d => .ret ⟨d, g d⟩ := ⟨_, rfl⟩
/-- the next four only compute, -/
theorem part2_ret (a b d e f h : BitVec 32) (i : BitVec 1) : ∃ v, k0_part2 (F := F) aM (Memref.isWhole_whole _) bM (Memref.isWhole_whole _) outM (Memref.isWhole_whole _) slotsM (Memref.isWhole_whole _)
      b16M (Memref.isWhole_whole _) cc0_scratch2 cc0_scratch3 a b d e f h i = .ret v := ⟨_, rfl⟩
theorem part3_ret (a b d e f h : BitVec 32) : ∃ v, k0_part3 (F := F) aM (Memref.isWhole_whole _) bM (Memref.isWhole_whole _) outM (Memref.isWhole_whole _) slotsM (Memref.isWhole_whole _)
      b16M (Memref.isWhole_whole _) cc0_scratch2 cc0_scratch3 a b d e f h = .ret v := ⟨_, rfl⟩
theorem part4_ret (a b d e f h : BitVec 32) (i j : BitVec 1) (x : BitVec 32) : ∃ v, k0_part4 (F := F) aM (Memref.isWhole_whole _) bM (Memref.isWhole_whole _) outM (Memref.isWhole_whole _) slotsM (Memref.isWhole_whole _)
      b16M (Memref.isWhole_whole _) cc0_scratch2 cc0_scratch3 a b d e f h i j x = .ret v := ⟨_, rfl⟩
/-- the last of them naming the barrier semaphore. -/
theorem part5_ret (a b d e f h : BitVec 32) (i : BitVec 1) (x : BitVec 32) : ∃ v w y z, k0_part5 (F := F) aM (Memref.isWhole_whole _) bM (Memref.isWhole_whole _) outM (Memref.isWhole_whole _) slotsM (Memref.isWhole_whole _)
      b16M (Memref.isWhole_whole _) cc0_scratch2 cc0_scratch3 a b d e f h i x
    = .ret ⟨v, w, y, SemArray.scalar (sig.barrier 0 rfl), z⟩ := ⟨_, _, _, _, rfl⟩

/-! ## Slots taken apart and put together -/

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The eight-slot buffer is its eight slots, -/
theorem slots_split (c : Dev nD) (f : Buf (Elt F) ((c : Thread nD τ).loc cc0_scratch0)) :
    (((c : Thread nD τ).loc cc0_scratch0) ↦{fullShare} f : sProp 𝕄) = bigSep Finset.univ fun s => slotPts c s fullShare f :=
  Ring.pointsTo_blocks (ℓ := (c : Thread nD τ).loc cc0_scratch0) (q := fullShare) slotSet slots_disjoint slots_cover f

/-- its own slot and, direction by direction, those it lends. -/
theorem slots_ready (c : Dev nD) :
    iprop(∃ f, ((c : Thread nD τ).loc cc0_scratch0) ↦{fullShare} f)
      ⊢ (iprop((∃ f, slotPts c 0 fullShare f) ∗ (readyPay (F := F) c 0 ∗ readyPay (F := F) c 1 ∗ readyPay (F := F) c 2 ∗ readyPay (F := F) c 3)) : sProp 𝕄) := by
  show _ ⊢ iprop((∃ f, slotPts c 0 fullShare f) ∗ ((landing c 0 ∗ landing c 4) ∗ (landing c 1 ∗ landing c 5)
    ∗ (landing c 2 ∗ landing c 6) ∗ landing c 3))
  unfold landing
  iintro ⟨%f, H⟩
  ihave H := (Entails.of_eq ((slots_split c f).trans (eight _))) $$ H
  icases H with ⟨H0, H1, H2, H3, H4, H5, H6, H7⟩
  isplitl [H0]; · iexists f; iexact H0
  isplitl [H1 H5]
  · isplitl [H1]
    · iexists f; iexact H1
    · iexists f; iexact H5
  isplitl [H2 H6]
  · isplitl [H2]
    · iexists f; iexact H2
    · iexists f; iexact H6
  isplitl [H3 H7]
  · isplitl [H3]
    · iexists f; iexact H3
    · iexists f; iexact H7
  iexists f; iexact H4

/-- What the neighbours lend, with the rights to pay the copies' ends, is what the seven copies need. -/
theorem kits (c : Dev nD) :
    iprop((readyPay (F := F) (peer 0 c) 0 ∗ readyPay (F := F) (peer 1 c) 1 ∗ readyPay (F := F) (peer 2 c) 2 ∗ readyPay (F := F) (peer 3 c) 3)
        ∗ (bigSep Finset.univ fun j : Fin 7 => dutyTok ER (sendCell c j) 0 0)
        ∗ (bigSep Finset.univ fun j : Fin 7 => dutyTok ER (recvCell (tgt c j) j) 0 0))
      ⊢ (iprop(copyKit (F := F) c 0 ∗ copyKit (F := F) c 1 ∗ copyKit (F := F) c 2 ∗ copyKit (F := F) c 3 ∗ copyKit (F := F) c 4 ∗ copyKit (F := F) c 5 ∗ copyKit (F := F) c 6) : sProp 𝕄) := by
  rw [seven, seven]
  show iprop(((landing (tgt c 0) 0 ∗ landing (tgt c 4) 4) ∗ (landing (tgt c 1) 1 ∗ landing (tgt c 5) 5)
    ∗ (landing (tgt c 2) 2 ∗ landing (tgt c 6) 6) ∗ landing (tgt c 3) 3) ∗ _) ⊢ _
  iintro ⟨⟨Hr0, Hr1, Hr2, Hl3⟩, ⟨Hs0, Hs1, Hs2, Hs3, Hs4, Hs5, Hs6⟩, Ht0, Ht1, Ht2, Ht3, Ht4, Ht5, Ht6⟩
  icases Hr0 with ⟨Hl0, Hl4⟩
  icases Hr1 with ⟨Hl1, Hl5⟩
  icases Hr2 with ⟨Hl2, Hl6⟩
  unfold copyKit
  isplitl [Hl0 Hs0 Ht0]
  · isplitl [Hl0]; · iexact Hl0
    isplitl [Hs0]; · iexact Hs0
    iexact Ht0
  isplitl [Hl1 Hs1 Ht1]
  · isplitl [Hl1]; · iexact Hl1
    isplitl [Hs1]; · iexact Hs1
    iexact Ht1
  isplitl [Hl2 Hs2 Ht2]
  · isplitl [Hl2]; · iexact Hl2
    isplitl [Hs2]; · iexact Hs2
    iexact Ht2
  isplitl [Hl3 Hs3 Ht3]
  · isplitl [Hl3]; · iexact Hl3
    isplitl [Hs3]; · iexact Hs3
    iexact Ht3
  isplitl [Hl4 Hs4 Ht4]
  · isplitl [Hl4]; · iexact Hl4
    isplitl [Hs4]; · iexact Hs4
    iexact Ht4
  isplitl [Hl5 Hs5 Ht5]
  · isplitl [Hl5]; · iexact Hl5
    isplitl [Hs5]; · iexact Hs5
    iexact Ht5
  isplitl [Hl6]; · iexact Hl6
  isplitl [Hs6]; · iexact Hs6
  iexact Ht6

/-- A slot that is passed on: the half kept and the half its copy borrows. -/
theorem slot_lend (c : Dev nD) (j : Fin 7) (s : Fin 8) (hs : srcSlot j = s) (hl : lent j = fullShare.right) :
    slotFull A c s ⊣⊢ iprop(slotKept A c s ∗ slotLent A c j) := by
  subst hs
  unfold slotLent
  rw [hl]
  exact slot_halve A c _

/-- Every share back, the buffer is whole. -/
theorem slots_back (c : Dev nD) :
    iprop((slotKept A c 0 ∗ slotKept A c 1 ∗ slotKept A c 2 ∗ slotKept A c 3) ∗ (slotLent A c 0 ∗ slotLent A c 1 ∗ slotLent A c 2 ∗ slotLent A c 3 ∗ slotLent A c 4 ∗ slotLent A c 5 ∗ slotLent A c 6)
        ∗ (slotFull A c 4 ∗ slotFull A c 5 ∗ slotFull A c 6 ∗ slotFull A c 7))
      ⊢ (iprop(∃ f, ((c : Thread nD τ).loc cc0_scratch0) ↦{fullShare} f) : sProp 𝕄) := by
  iintro ⟨⟨Hk0, Hk1, Hk2, Hk3⟩, ⟨Hl0, Hl1, Hl2, Hl3, Hl4, Hl5, Hl6⟩, H4, H5, H6, H7⟩
  ihave Hq := (slot_quarter A c).2 $$ [Hl0 Hl1 Hl2 Hl3]
  · iframe Hl0 Hl1 Hl2 Hl3
  ihave H0 := (slot_halve A c 0).2 $$ [Hk0 Hq]
  · iframe Hk0 Hq
  ihave H1 := (slot_lend A c 6 1 rfl rfl).2 $$ [Hk1 Hl6]
  · iframe Hk1 Hl6
  ihave H2 := (slot_lend A c 4 2 rfl rfl).2 $$ [Hk2 Hl4]
  · iframe Hk2 Hl4
  ihave H3 := (slot_lend A c 5 3 rfl rfl).2 $$ [Hk3 Hl5]
  · iframe Hk3 Hl5
  iexists (gathered A c)
  iapply (Entails.of_eq ((slots_split c (gathered A c)).trans (eight _)).symm)
  iframe H0 H1 H2 H3 H4 H5 H6 H7

/-! ## The whole body -/

/-- What the exchange needs on device `c` at the start: the schedule's records, the rights to pay its neighbours' cells, its
    place in the rounds of its own, and the credit for what will arrive. -/
def bodyGhost (c : Dev nD) : sProp 𝕄 :=
  iprop(records A K ∗ (bigSep Finset.univ fun p : Fin 4 => dutyTok ER (barCell (peer p c)) 0 p)
    ∗ (bigSep Finset.univ fun j : Fin 7 => dutyTok ER (sendCell c j) 0 0)
    ∗ (bigSep Finset.univ fun j : Fin 7 => dutyTok ER (recvCell (tgt c j) j) 0 0)
    ∗ atPos ER (barCell c) 0 ∅ 0
    ∗ (bigSep Finset.univ fun j : Fin 7 => portPos (F := F) c (.inl j))
    ∗ (bigSep Finset.univ fun j : Fin 7 => portPos (F := F) c (.inr j)))
def bodyCreds (c : Dev nD) : sProp 𝕄 :=
  iprop(cred (tallyAt (barCell c) () 4) ∗ bigSep Finset.univ fun j : Fin 7 => portCred (F := F) c (.inr j))

/-- What the body leaves of the exchange: nothing owed, its buffers, and every semaphore of its own back at zero. -/
def bodyRest (c : Dev nD) : sProp 𝕄 :=
  iprop(owing c (arrivals c [])
    ∗ (∃ f, ((c : Thread nD τ).loc cc0_scratch0) ↦{fullShare} f) ∗ (∃ f, ((c : Thread nD τ).loc cc0_scratch1) ↦{fullShare} f)
    ∗ semVal (barCell c) 0
    ∗ (bigSep Finset.univ fun j : Fin 7 => portDone (F := F) c (.inl j))
    ∗ (bigSep Finset.univ fun j : Fin 7 => portDone (F := F) c (.inr j)))

set_option maxHeartbeats 1000000 in
/-- The body on device `c` with its rows `A c` and the matrix `B c` staged: the output buffer ends as `outVal A (B c)`. -/
theorem body_run (c : Dev nD) (Q : PUnit → sProp 𝕄) :
    iprop((bodyGhost A K c ∗ bodyCreds (F := F) c ∗ levAts levIx lev ∗ owing c (dues c)
        ∗ (∃ f, ((c : Thread nD τ).loc cc0_scratch0) ↦{fullShare} f) ∗ (∃ f, ((c : Thread nD τ).loc cc0_scratch1) ↦{fullShare} f))
        ∗ (((c : Thread nD τ).loc cc0_stg0_0) ↦{fullShare} A c) ∗ (((c : Thread nD τ).loc cc0_stg1_0) ↦{fullShare} B c)
        ∗ (∃ f : Vec F S4096x512 .f32, ((c : Thread nD τ).loc cc0_stg2_0) ↦{fullShare} f))
      ⊢ iprop(((bodyRest (F := F) c
            ∗ (((c : Thread nD τ).loc cc0_stg0_0) ↦{fullShare} A c) ∗ (((c : Thread nD τ).loc cc0_stg1_0) ↦{fullShare} B c)
            ∗ (((c : Thread nD τ).loc cc0_stg2_0) ↦{fullShare} (outVal A (B c) : Vec F S4096x512 .f32))) -∗ Q ⟨⟩)
          -∗ wp frame (wpE (defs₀ (F := F)) 𝒱₀ (c : Thread nD τ) none) Set.univ (cc0_body aM (Memref.isWhole_whole _) bM (Memref.isWhole_whole _) outM (Memref.isWhole_whole _) slotsM (Memref.isWhole_whole _)
      b16M (Memref.isWhole_whole _) cc0_scratch2 cc0_scratch3) Q) := by
  rw [cc0_body_eq_skeleton]; unfold cc0_body_skel
  obtain ⟨g, hg⟩ := part1_ret (F := F)
  rw [hg]
  simp only [Prog.bind_op, Prog.bind_ret, wp_deviceId]
  obtain ⟨w1, w2, w3, w4, w5, w6, w7, w8⟩ := g c
  simp only []
  obtain ⟨⟨x1, x2, x3, x4, x5⟩, hx⟩ := part2_ret (F := F) w2 w3 w4 w5 w6 w7 w8
  rw [hx]; simp only [Prog.bind_ret]
  obtain ⟨⟨y1, y2, y3, y4, y5, y6, y7, y8⟩, hy⟩ := part3_ret (F := F) w2 x1 x2 x3 x4 x5
  rw [hy]; simp only [Prog.bind_ret]
  obtain ⟨⟨z1, z2, z3, z4, z5, z6⟩, hz⟩ := part4_ret (F := F) w2 x1 x2 y3 y4 y5 y6 y7 y8
  rw [hz]; simp only [Prog.bind_ret]
  obtain ⟨u1, u2, u3, u4, hu⟩ := part5_ret (F := F) w2 x1 x2 y1 z3 z4 z5 z6
  rw [hu]; simp only [Prog.bind_ret]
  simp only [Prog.lift, Prog.bind_op, Prog.pure_eq_ret]
  unfold bodyGhost bodyCreds
  iintro ⟨⟨⟨#Hrec, Hbt, Hst, Hrt, Hat, Hps, Hpr⟩, ⟨Hcb, Hcr⟩, #Hlev, HO, Hscr, Hb16⟩, Ha, Hb, ⟨%fo, Hout⟩⟩ Hk
  ihave Hbt := (Entails.of_eq (four _)) $$ Hbt
  ihave Hps := (Entails.of_eq (seven _)) $$ Hps
  ihave Hpr := (Entails.of_eq (seven _)) $$ Hpr
  ihave Hcr := (Entails.of_eq (seven _)) $$ Hcr
  icases Hps with ⟨Hp0, Hp1, Hp2, Hp3, Hp4, Hp5, Hp6⟩
  icases Hpr with ⟨Hq0, Hq1, Hq2, Hq3, Hq4, Hq5, Hq6⟩
  icases Hcr with ⟨Hr0, Hr1, Hr2, Hr3, Hr4, Hr5, Hr6⟩
  ihave Hs := (slots_ready c) $$ Hscr
  icases Hs with ⟨Hs0, Hready⟩
  ihave Ho := (outDone_zero A B c fo) $$ Hout
  iapply (part6_step A B K c _ _ _ _ _) $$ [HO Hbt Hready Hcb Hat Ha Hs0 Hb Hb16]
  · iframe Hrec Hlev HO Hbt Hready Hcb Hat Ha Hs0 Hb Hb16
  iintro ⟨HO, Hz, Hready, Ha, Hs0, Hb, Hm⟩
  ihave Hkits := (kits c) $$ [Hready Hst Hrt]
  · iframe Hready Hst Hrt
  icases Hkits with ⟨Hk0, Hk1, Hk2, Hk3, Hk4, Hk5, Hk6⟩
  ihave Hs0 := (slot_halve A c 0).1 $$ Hs0
  icases Hs0 with ⟨Hs0, Hhalf⟩
  ihave Hhalf := (slot_quarter A c).1 $$ Hhalf
  icases Hhalf with ⟨⟨Hl0, Hl1⟩, Hl2, Hl3⟩
  iapply (part7_step A K c _ _ _) $$ [HO Hl0 Hl1 Hl2 Hk0 Hk1 Hk2]
  · iframe Hrec HO Hl0 Hl1 Hl2 Hk0 Hk1 Hk2
  iintro ⟨HO, Hc0, Hc1, Hc2⟩
  iapply (part8_step A B K c _ _ _) $$ [HO Hl3 Hk3 Hs0 Hm Ho Hr0 Hq0]
  · iframe Hrec Hlev HO Hl3 Hk3 Hs0 Hm Ho Hr0 Hq0
  iintro ⟨HO, Hc3, Hs0, Hm, Ho, Hd0, Hs1⟩
  ihave Hs1 := (slot_lend A c 6 1 rfl rfl).1 $$ Hs1
  icases Hs1 with ⟨Hs1, Hl6⟩
  iapply (part9_step A B K c _ _) $$ [HO Hl6 Hk6 Hs1 Hm Ho Hr1 Hq1]
  · iframe Hrec Hlev HO Hl6 Hk6 Hs1 Hm Ho Hr1 Hq1
  iintro ⟨HO, Hc6, Hs1, Hm, Ho, Hd1, Hs2⟩
  ihave Hs2 := (slot_lend A c 4 2 rfl rfl).1 $$ Hs2
  icases Hs2 with ⟨Hs2, Hl4⟩
  iapply (part10_step A B K c _ _) $$ [HO Hl4 Hk4 Hs2 Hm Ho Hr2 Hq2 Hk5]
  · iframe Hrec Hlev HO Hl4 Hk4 Hs2 Hm Ho Hr2 Hq2 Hk5
  iintro ⟨HO, Hc4, Hc5, Hs2, Hm, Ho, Hd2, Hs3⟩
  iapply (part11_step A B K c _ _ _) $$ [HO Hs3 Hm Ho Hr3 Hq3]
  · iframe Hrec Hlev HO Hs3 Hm Ho Hr3 Hq3
  iintro ⟨HO, Hs3, Hm, Ho, Hd3, Hs4⟩
  iapply (part12_step A B K c _ _ _) $$ [HO Hm Ho Hr4 Hq4 Hr5 Hq5]
  · iframe Hrec Hlev HO Hm Ho Hr4 Hq4 Hr5 Hq5
  iintro ⟨HO, Hm, Ho, Hd4, Hd5, Hs5, Hs6⟩
  iapply (part13_step A B K c _ _) $$ [HO Hm Ho Hr6 Hq6 Hc0 Hp0]
  · iframe Hrec Hlev HO Hm Ho Hr6 Hq6 Hc0 Hp0
  iintro ⟨HO, Hm, Ho, Hd6, Hs7, He0, Hl0⟩
  iapply (part14_step A K c) $$ [HO Hc1 Hp1 Hc2 Hp2 Hc3 Hp3 Hc4 Hp4]
  · iframe Hrec Hlev HO Hc1 Hp1 Hc2 Hp2 Hc3 Hp3 Hc4 Hp4
  iintro ⟨HO, He1, He2, He3, He4, Hl1, Hl2, Hl3, Hl4⟩
  iapply (port_step A K (.inl 5) c rfl ⟨3, rfl⟩ [] (by decide)) $$ [HO Hc5 Hp5]
  · iframe Hrec Hlev HO Hc5 Hp5
  iintro ⟨HO, He5, Hl5⟩
  ihave Hl5 := (port_lent A c 5) $$ Hl5
  iapply (port_step A K (.inl 6) c rfl ⟨1, rfl⟩ [] (by decide)) $$ [HO Hc6 Hp6]
  · iframe Hrec Hlev HO Hc6 Hp6
  iintro ⟨HO, He6, Hl6⟩
  ihave Hl6 := (port_lent A c 6) $$ Hl6
  ihave Hscr := (slots_back A c) $$ [Hs0 Hs1 Hs2 Hs3 Hl0 Hl1 Hl2 Hl3 Hl4 Hl5 Hl6 Hs4 Hs5 Hs6 Hs7]
  · iframe Hs0 Hs1 Hs2 Hs3 Hl0 Hl1 Hl2 Hl3 Hl4 Hl5 Hl6 Hs4 Hs5 Hs6 Hs7
  ihave Hout := (outDone_all A B c) $$ Ho
  rw [Prog.bind_ret, wp_ret]; imodintro
  iapply Hk
  iframe Ha Hb Hout
  unfold bodyRest
  iframe HO Hscr Hz
  isplitl [Hm]; · unfold b16Pts; iexists _; iexact Hm
  isplitl [He0 He1 He2 He3 He4 He5 He6]
  · iapply (Entails.of_eq (seven _).symm)
    iframe He0 He1 He2 He3 He4 He5 He6
  iapply (Entails.of_eq (seven _).symm)
  iframe Hd0 Hd1 Hd2 Hd3 Hd4 Hd5 Hd6

end Cert.Cube
-- ==== Proof.Ghost.lean ====
/-
# What the launch deals out

The launch gives every device the round records of its own fifteen cells and the tokens of its own cells' duties, and the
credit the other devices' debts amount to. The records become one shared family of invariants; each token goes to the
device that pays its duty.
-/
module

public import proofs.«01_k».proof.Proof.Body

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Vec F S512x256 .f32)

/-! ## Cells and tokens -/

/-- Every device's cells; -/
def cubeCells : Finset (GSem nD τ sig) := Finset.univ.map ⟨kcell, kcell_inj⟩

/-- and the duties of a device's cells: its barrier cell's four, and each port's one. -/
abbrev tokOf (ct : Dev nD × (Fin 4 ⊕ Port)) : GSem nD τ sig × ℕ × Fin 4 :=
  ct.2.elim (fun p => (barCell ct.1, 0, p)) fun q => (kcell (ct.1, .inr q), 0, 0)

theorem tokOf_inj : Function.Injective tokOf := fun ⟨c, t⟩ ⟨c', t'⟩ h => by
  have hc := congrArg (fun x : GSem nD τ sig × ℕ × Fin 4 => x.1) h
  have hd := congrArg (fun x : GSem nD τ sig × ℕ × Fin 4 => x.2.2) h
  rcases t with p | q <;> rcases t' with p' | q'
  · have h₁ := kcell_inj hc
    cases h₁; cases hd; rfl
  · exact absurd (kcell_inj hc) (fun h => by cases h)
  · exact absurd (kcell_inj hc) (fun h => by cases h)
  · have h₁ := kcell_inj hc
    cases h₁; rfl

def cubeToks : Finset (GSem nD τ sig × ℕ × Fin 4) := Finset.univ.map ⟨tokOf, tokOf_inj⟩

/-- The launch element: the pipeline's part and the exchange's. -/
def u₀ : UU := (initOf (Pipeline.cells cfgs cellOf_inj) (Pipeline.launchToks cfgs cellOf_inj), initOf cubeCells cubeToks)

/-- The tokens of device `c`'s own cells. -/
def toks (c : Dev nD) : sProp 𝕄 :=
  iprop((bigSep Finset.univ fun p : Fin 4 => dutyTok ER (barCell c) 0 p) ∗ bigSep Finset.univ fun q : Port => dutyTok ER (kcell (c, .inr q)) 0 0)

/-- The tokens of the duties device `c` pays. -/
def payToks (c : Dev nD) : sProp 𝕄 :=
  iprop((bigSep Finset.univ fun p : Fin 4 => dutyTok ER (barCell (peer p c)) 0 p)
    ∗ (bigSep Finset.univ fun j : Fin 7 => dutyTok ER (sendCell c j) 0 0)
    ∗ (bigSep Finset.univ fun j : Fin 7 => dutyTok ER (recvCell (tgt c j) j) 0 0))

/-- Device `c`'s positions, at the start of every one of its cells. -/
def places (c : Dev nD) : sProp 𝕄 := bigSep Finset.univ fun k : Cell => atPos ER (kcell (c, k)) 0 ∅ 0

/-- What the launch element deals device `c`, -/
def dealt (c : Dev nD) : sProp 𝕄 :=
  iprop((bigSep Finset.univ fun k : Cell => roundState ER (sched A) (kcell (c, k)) 0)
    ∗ (bigSep Finset.univ fun k : Cell => iprop(atPos ER (kcell (c, k)) 0 ∅ 0 ∗ reached ER (kcell (c, k)) 0)) ∗ toks c)

/-- and what the devices' common step makes of it. -/
def ready (c : Dev nD) : sProp 𝕄 := iprop(∃ K, bodyGhost A K c)

/-- The exchange's part of the launch element is every device's records, positions and tokens. -/
theorem deal : BI.own (ER (initOf cubeCells cubeToks)) ⊢ (|==> bigSep Finset.univ (dealt A) : sProp 𝕄) := by
  have hX (Φ : GSem nD τ sig → sProp 𝕄) : bigSep cubeCells Φ = bigSep Finset.univ fun c : Dev nD => bigSep Finset.univ fun k : Cell => Φ (kcell (c, k)) := by
    unfold cubeCells; rw [bigSep_map, bigSep_univ_prod]; rfl
  have hT : bigSep cubeToks (fun x => (dutyTok ER x.1 x.2.1 x.2.2 : sProp 𝕄)) = bigSep Finset.univ fun c : Dev nD => toks c := by
    unfold cubeToks; rw [bigSep_map, bigSep_univ_prod]
    exact bigSep_congr fun c _ => by unfold toks; rw [bigSep_univ_sum]; rfl
  iintro HX
  imod (Rounds.fund ER (sched A) cubeCells cubeToks) $$ HX with ⟨Hst, Hr, Hat, Htok⟩
  imodintro
  ihave Hst' := (Entails.of_eq (hX fun g => roundState ER (sched A) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  iframe Hst' Hat' Hr' Htok'

/-! ## The semaphores -/

theorem ownSemFacts : Pipeline.OwnSemFacts cfg0.spec portSem := by decide +kernel

/-- The ports are the kernel's own semaphores; -/
theorem ownSems0_eq (c : Dev nD) : (Pipeline.ownSems0 (Ix := Unit) (Name := ℕ) (U := UU) (Lvl := ℕ) (Val := Elt F) (τ := τ) portSem c : sProp 𝕄)
    = iprop((bigSep Finset.univ fun j : Fin 7 => portDone (F := F) c (.inl j)) ∗ bigSep Finset.univ fun j : Fin 7 => portDone (F := F) c (.inr j)) := by
  unfold Pipeline.ownSems0; rw [bigSep_univ_sum]; rfl
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

/-- A product over ports is the senders' part and the receivers', -/
theorem ports_split (Φ : Port → sProp 𝕄) : bigSep Finset.univ Φ
    = iprop((bigSep Finset.univ fun j : Fin 7 => Φ (.inl j)) ∗ (bigSep Finset.univ fun j : Fin 7 => Φ (.inr j))) := bigSep_univ_sum Φ
/-- and a product over a device's cells is the barrier cell's part and the ports'. -/
theorem cells_split (Φ : Cell → sProp 𝕄) : bigSep Finset.univ Φ
    = iprop(Φ (.inl ()) ∗ (bigSep Finset.univ fun j : Fin 7 => Φ (.inr (.inl j))) ∗ (bigSep Finset.univ fun j : Fin 7 => Φ (.inr (.inr j)))) := by
  rw [bigSep_univ_sum, ports_split, bigSep_univ_eq_bigSepL [()] (by decide) (by decide)]; rfl

/-- Each device's cells become invariants. -/
theorem core_alloc (c : Dev nD) :
    iprop(Pipeline.ownSems0 (Ix := Unit) (Name := ℕ) (U := UU) (Lvl := ℕ) (Val := Elt F) (τ := τ) portSem c ∗ unscopedSems0 c ∗ dealt A c)
      ⊢ |={Set.univ}=> iprop((bigSep Finset.univ fun k => iprop(∃ κ : ℕ, cellInv ER (sched A) κ (kcell (c, k))))
          ∗ (bigSep Finset.univ fun k => iprop(atPos ER (kcell (c, k)) 0 ∅ 0 ∗ reached ER (kcell (c, k)) 0)) ∗ toks c) := by
  have hinv : iprop((bigSep Finset.univ fun k : Cell => semVal (kcell (c, k)) 0) ∗ bigSep Finset.univ fun k : Cell => roundState ER (sched A) (kcell (c, k)) 0)
      ⊢ (|={Set.univ}=> bigSep Finset.univ fun k => iprop(∃ κ : ℕ, cellInv ER (sched A) κ (kcell (c, k))) : sProp 𝕄) := by
    rw [← bigSep_sep']
    exact (bigSep_mono fun k _ => (Rounds.body_intro ER (sched A) (kcell (c, k))).trans inv_alloc).trans (bigSep_fupd _ _)
  rw [cells_split (fun k => semVal (kcell (c, k)) 0)] at hinv
  rw [ownSems0_eq, unscopedSems0_eq]
  unfold dealt
  iintro ⟨⟨Hs, Hr⟩, Hb, Hst, Hat, Htok⟩
  imod hinv $$ [Hs Hr Hb Hst] with Hinv
  · iframe Hst Hb Hs Hr
  imodintro
  iframe Hinv Hat Htok

/-! ## Handing the tokens over -/

/-- A product over devices and directions, taken at each device's partner instead. -/
theorem deal_peers (Φ : Dev nD → Fin 4 → sProp 𝕄) : (bigSep Finset.univ fun c : Dev nD => bigSep Finset.univ fun p : Fin 4 => Φ c p)
    = bigSep Finset.univ fun c : Dev nD => bigSep Finset.univ fun p : Fin 4 => Φ (peer p c) p := by
  rw [← bigSep_univ_prod fun cp : Dev nD × Fin 4 => Φ cp.1 cp.2, ← bigSep_univ_prod fun cp : Dev nD × Fin 4 => Φ (peer cp.2 cp.1) cp.2]
  exact bigSep_univ_equiv (⟨fun cp => (peer cp.2 cp.1, cp.2), fun cp => (peer cp.2 cp.1, cp.2),
    fun cp => Prod.ext (peer_peer cp.2 cp.1) rfl, fun cp => Prod.ext (peer_peer cp.2 cp.1) rfl⟩ : Dev nD × Fin 4 ≃ Dev nD × Fin 4) _

/-- The same over devices and copies, taken at each copy's receiver. -/
theorem deal_tgts (Φ : Dev nD → Fin 7 → sProp 𝕄) : (bigSep Finset.univ fun c : Dev nD => bigSep Finset.univ fun j : Fin 7 => Φ c j)
    = bigSep Finset.univ fun c : Dev nD => bigSep Finset.univ fun j : Fin 7 => Φ (tgt c j) j := by
  rw [← bigSep_univ_prod fun cj : Dev nD × Fin 7 => Φ cj.1 cj.2, ← bigSep_univ_prod fun cj : Dev nD × Fin 7 => Φ (tgt cj.1 cj.2) cj.2]
  exact bigSep_univ_equiv (⟨fun cj => (tgt cj.1 cj.2, cj.2), fun cj => (tgt cj.1 cj.2, cj.2),
    fun cj => Prod.ext (tgt_tgt cj.1 cj.2) rfl, fun cj => Prod.ext (tgt_tgt cj.1 cj.2) rfl⟩ : Dev nD × Fin 7 ≃ Dev nD × Fin 7) _

/-- Every token goes to the device that pays its duty. -/
theorem toks_around : (bigSep Finset.univ fun c : Dev nD => (toks c : sProp 𝕄)) ⊢ bigSep Finset.univ fun c : Dev nD => payToks c := by
  unfold toks payToks
  rw [bigSep_congr (s := Finset.univ) fun (c : Dev nD) _ => congrArg (fun X => iprop((bigSep Finset.univ fun p : Fin 4 => dutyTok ER (barCell c) 0 p) ∗ X))
    (ports_split (fun q : Port => (dutyTok ER (kcell (c, .inr q)) 0 0 : sProp 𝕄)))]
  rw [bigSep_sep', bigSep_sep', bigSep_sep', bigSep_sep', deal_peers (fun c p => dutyTok ER (barCell c) 0 p),
    deal_tgts (fun c j => dutyTok ER (recvCell c j) 0 0)]

/-- From the shared records, device `c`'s positions and the tokens it pays with, what its body starts from. -/
theorem ready_intro (K : Dev nD × Cell → ℕ) (c : Dev nD) : iprop(records A K ∗ places c ∗ payToks c) ⊢ ready A c := by
  unfold places payToks ready bodyGhost
  rw [cells_split (fun k => atPos ER (kcell (c, k)) 0 ∅ 0)]
  iintro ⟨Hrec, ⟨Hb, Hs, Hr⟩, H1, H2, H3⟩
  iexists K
  iframe Hrec Hb H1 H2 H3
  unfold portPos
  iframe Hs Hr

/-- The invariants' names chosen, all devices are ready. -/
theorem regroup :
    (bigSep Finset.univ fun c : Dev nD => iprop((bigSep Finset.univ fun k => iprop(∃ κ : ℕ, cellInv ER (sched A) κ (kcell (c, k))))
          ∗ (bigSep Finset.univ fun k => iprop(atPos ER (kcell (c, k)) 0 ∅ 0 ∗ reached ER (kcell (c, k)) 0)) ∗ toks c) : sProp 𝕄)
      ⊢ bigSep Finset.univ (ready A) := by
  rw [bigSep_sep', bigSep_sep', ← bigSep_univ_prod (fun ck : Dev nD × Cell => iprop(∃ κ : ℕ, cellInv ER (sched A) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, HR⟩, Htok⟩
  ihave HK := (BI.bigSep_exists_pi Finset.univ (fun (ck : Dev nD × Cell) (κ : ℕ) => (cellInv ER (sched A) κ (kcell ck) : sProp 𝕄))) $$ HI
  icases HK with ⟨%K, HI⟩
  ihave Htk := (toks_around (F := F)) $$ Htok
  have hgo : iprop(records A K ∗ bigSep Finset.univ fun c : Dev nD => iprop(places c ∗ payToks c)) ⊢ bigSep Finset.univ (ready A) :=
    (sep_mono_left (BI.bigSep_of_persistent Finset.univ (records A K))).trans
      (by rw [← bigSep_sep']; exact bigSep_mono fun c _ => ready_intro A K c)
  rw [bigSep_sep' Finset.univ (fun c : Dev nD => places c) fun c => payToks c] at hgo
  iapply hgo
  unfold records places
  rw [bigSep_sep']
  iframe HI HR Hat Htk

/-- The devices' common step: every device's own and unscoped semaphores, with what it was dealt, make it ready. -/
theorem glob : (bigSep Finset.univ fun c => iprop(Pipeline.ownSems0 (Ix := Unit) (Name := ℕ) (U := UU) (Lvl := ℕ) (Val := Elt F) (τ := τ) portSem c ∗ unscopedSems0 c ∗ dealt A c) : sProp 𝕄)
    ⊢ |={Set.univ}=> bigSep Finset.univ (ready A) :=
  ((bigSep_mono fun c _ => core_alloc A c).trans (bigSep_fupd _ _)).trans (BI.fupd_mono (regroup A))

/-! ## The launch credit -/

/-- The four ready signals a device sends; a cell is signalled once from each direction. -/
theorem launch_ready (p : Fin 4) (c : Dev nD) :
    (Pipeline.launchCred (fun d => tallyAt (barCell (peer p d)) () 1) c : sProp 𝕄) ⊢ cred (tallyAt (barCell c) () 1) :=
  Pipeline.launchCred_tallyAt (cellSem (.inl ())) (peer p) (peer p) (peer_peer p) (peer_peer p) () 1 c

/-- Copy `j` arrives at each device's receiving port once. -/
theorem launch_copy (j : Fin 7) (c : Dev nD) :
    (Pipeline.launchCred (fun d => tallyAt (recvCell (tgt d j) j) () N) c : sProp 𝕄) ⊢ portCred (F := F) c (.inr j) :=
  Pipeline.launchCred_tallyAt (cellSem (.inr (.inr j))) (peer (dir j)) (peer (dir j)) (peer_peer _) (peer_peer _) () N c

theorem tallyAt_four (g : GSem nD τ sig) : (tallyAt g () 4 : CellTallies nD τ sig Unit) = tallyAt g () 1 + tallyAt g () 1 + tallyAt g () 1 + tallyAt g () 1 := by
  rw [tallyAt_add, tallyAt_add, tallyAt_add]

/-- The debts of all devices give each device the credit its body spends. -/
theorem launch_creds (c : Dev nD) : (Pipeline.launchCred (fun d => debt (dues d)) c : sProp 𝕄) ⊢ bodyCreds (F := F) c := by
  have hsum : (fun d : Dev nD => debt (dues d)) = fun d => 0 + tallyAt (recvCell (tgt d 5) 5) () N + tallyAt (recvCell (tgt d 4) 4) () N
      + tallyAt (recvCell (tgt d 6) 6) () N + tallyAt (recvCell (tgt d 3) 3) () N + tallyAt (recvCell (tgt d 2) 2) () N
      + tallyAt (recvCell (tgt d 1) 1) () N + tallyAt (recvCell (tgt d 0) 0) () N
      + tallyAt (barCell (peer 3 d)) () 1 + tallyAt (barCell (peer 2 d)) () 1 + tallyAt (barCell (peer 1 d)) () 1 + tallyAt (barCell (peer 0 d)) () 1 := rfl
  rw [hsum, Pipeline.launchCred_add, Pipeline.launchCred_add, Pipeline.launchCred_add, Pipeline.launchCred_add, Pipeline.launchCred_add,
    Pipeline.launchCred_add, Pipeline.launchCred_add, Pipeline.launchCred_add, Pipeline.launchCred_add, Pipeline.launchCred_add, Pipeline.launchCred_add]
  unfold bodyCreds
  rw [seven, tallyAt_four]
  iintro ⟨⟨⟨⟨⟨⟨⟨⟨⟨⟨⟨-, H5⟩, H4⟩, H6⟩, H3⟩, H2⟩, H1⟩, H0⟩, G3⟩, G2⟩, G1⟩, G0⟩
  ihave K0 := (launch_copy (F := F) 0 c) $$ H0
  ihave K1 := (launch_copy (F := F) 1 c) $$ H1
  ihave K2 := (launch_copy (F := F) 2 c) $$ H2
  ihave K3 := (launch_copy (F := F) 3 c) $$ H3
  ihave K4 := (launch_copy (F := F) 4 c) $$ H4
  ihave K5 := (launch_copy (F := F) 5 c) $$ H5
  ihave K6 := (launch_copy (F := F) 6 c) $$ H6
  ihave B0 := (launch_ready (F := F) 0 c) $$ G0
  ihave B1 := (launch_ready (F := F) 1 c) $$ G1
  ihave B2 := (launch_ready (F := F) 2 c) $$ G2
  ihave B3 := (launch_ready (F := F) 3 c) $$ G3
  iframe K0 K1 K2 K3 K4 K5 K6
  iapply (cred_add _ _).2
  isplitr [B3]
  · iapply (cred_add _ _).2
    isplitr [B2]
    · iapply (cred_add _ _).2
      iframe B0 B1
    · iexact B2
  · iexact B3

end Cert.Cube

end
-- ==== Proof.Launch.lean ====
/-
# The launch

Each device's run of the kernel, as the pipeline starts it: the device's rows and its matrix are fetched, the body runs,
and the output is written back. All devices together, from any memory with the semaphores at zero.
-/
module

public import proofs.«01_k».proof.Proof.Ghost
public import proofs.«01_k».proof.Proof.Gen.KernelIdeal.Launch
public import proofs.«01_k».proof.Proof.Gen.KernelIdeal.Points
public import Idealize.ShloMosaic.Lib.Pipeline.CollectiveSegs

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-- What the pipeline stages on device `c`: its rows, -/
def rows (c : Dev nD) : Vec F S512x256 .f32 := (win0_0.blk t0_0).view.read (Elt F) (m ((c : Thread nD τ).loc main_arg0))
/-- and its copy of the matrix. -/
def matrix (c : Dev nD) : Vec F S256x512 .f32 := (win0_1.blk t0_0).view.read (Elt F) (m ((c : Thread nD τ).loc main_arg1))

/-- What device `c`'s body starts from, besides its buffers. -/
def start (c : Dev nD) : sProp 𝕄 := iprop(ready (rows m) c ∗ bodyCreds (F := F) c ∗ levAts levIx lev)

/-- The kernel's two scratch buffers, at any contents. -/
def scratch (c : Dev nD) : sProp 𝕄 :=
  iprop((∃ f, ((c : Thread nD τ).loc cc0_scratch0) ↦{fullShare} f) ∗ (∃ f, ((c : Thread nD τ).loc cc0_scratch1) ↦{fullShare} f))

/-- Every semaphore of device `c` back at zero. -/
def quiet (c : Dev nD) : sProp 𝕄 :=
  iprop(semVal (barCell c) 0 ∗ (bigSep Finset.univ fun j : Fin 7 => portDone (F := F) c (.inl j))
    ∗ (bigSep Finset.univ fun j : Fin 7 => portDone (F := F) c (.inr j)))

/-- The pipeline's data: what its windows hold before and after the one point, and what is held and owed around it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => rows m c
    | ⟨1, _⟩ => matrix m c
    | ⟨2, _⟩ => outVal (rows m) (matrix m c)
  Φ t := match t with
    | ⟨0, _⟩ => iprop(start m c ∗ scratch c)
    | ⟨_ + 1, _⟩ => iprop(scratch c ∗ quiet c)
  q _ := fullShare
  owed t := match t with
    | ⟨0, _⟩ => debt (dues c)
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- Before the body runs, the first two windows have been fetched. -/
theorem before_rows (c : Dev nD) (d : Vec F S512x256 .f32) : (dats m ρ 0 c).before (0 : Fin 3) t0_0 d = rows m c := by
  unfold Dat.before; rw [if_pos (fetch0_0 t0_0)]; rfl
theorem before_matrix (c : Dev nD) (d : Vec F S256x512 .f32) : (dats m ρ 0 c).before (1 : Fin 3) t0_0 d = matrix m c := by
  unfold Dat.before; rw [if_pos (fetch0_1 t0_0)]; rfl

/-- A staging buffer at the contents `X`. -/
def staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline hands the body, -/
def handed (c : Dev nD) : sProp 𝕄 :=
  iprop((start m c ∗ scratch c) ∗ (dats m ρ 0 c).owesAt () (t0_0 : Fin cfg0.N).castSucc
    ∗ (∃ d, staged c cc0_stg0_0 ((dats m ρ 0 c).before (0 : Fin 3) t0_0 d))
    ∗ (∃ d, staged c cc0_stg1_0 ((dats m ρ 0 c).before (1 : Fin 3) t0_0 d))
    ∗ (∃ d, staged c cc0_stg2_0 ((dats m ρ 0 c).before (2 : Fin 3) t0_0 d)))
/-- and what it takes back. -/
def taken (c : Dev nD) : sProp 𝕄 :=
  iprop((scratch c ∗ quiet c) ∗ (dats m ρ 0 c).owesAt () (t0_0 : Fin cfg0.N).succ
    ∗ staged c cc0_stg0_0 (rows m c) ∗ staged c cc0_stg1_0 (matrix m c) ∗ staged c cc0_stg2_0 (outVal (rows m) (matrix m c)))

set_option maxRecDepth 8000 in
/-- The body of device `c` meets the pipeline's demand. -/
theorem body_obligation (c : Dev nD) : BodyObligation (dats (F := F) m ρ 0 c) (defs₀ (F := F)) Variants.none () Set.univ := fun t => by
  rw [fin_N0 t, bigSep_W0, bigSep_W0]
  simp only [owns_whole]
  show handed m ρ c ⊢ wp frame (wpE (defs₀ (F := F)) Variants.none (c : Thread nD τ) none) Set.univ
    (cc0_body aM (Memref.isWhole_whole _) bM (Memref.isWhole_whole _) outM (Memref.isWhole_whole _) slotsM (Memref.isWhole_whole _)
      b16M (Memref.isWhole_whole _) cc0_scratch2 cc0_scratch3) (fun _ => taken m ρ c)
  unfold handed start ready scratch staged Dat.owesAt Pipeline.owesWithin
  simp only [before_rows, before_matrix]
  rw [show (dats m ρ 0 c).owed (t0_0 : Fin cfg0.N).castSucc = debt (dues c) from rfl]
  iintro ⟨⟨⟨⟨%K, Hg⟩, Hc, Hl⟩, H0, H1⟩, ⟨%W, %hW, HO⟩, ⟨%d0, %f0, %h0, HA⟩, ⟨%d1, %f1, %h1, HB⟩, ⟨%d2, %f2, %h2, HC⟩⟩
  subst h0 h1
  iapply (body_run (rows m) (matrix m) K c fun _ => taken m ρ c) $$ [Hg Hc Hl H0 H1 HO HA HB HC]
  · iframe Hg Hc Hl H0 H1 HA HB
    isplitl [HO]
    · unfold owing; iexists W; iexact HO
    iexists f2; iexact HC
  · unfold bodyRest owing
    iintro ⟨⟨⟨%W', HO⟩, H0, H1, Hq, Hs, Hr⟩, HA, HB, HC⟩
    unfold taken scratch quiet staged Dat.owesAt Pipeline.owesWithin
    iframe H0 H1 Hq Hs Hr
    isplitl [HO]
    · iexists W'
      isplitr
      · ipureintro; exact fun _ _ => Or.inl trivial
      iexact HO
    isplitl [HA]
    · iexists _; isplitr; · (ipureintro; rfl)
      iexact HA
    isplitl [HB]
    · iexists _; isplitr; · (ipureintro; rfl)
      iexact HB
    iexists _; isplitr; · (ipureintro; rfl)
    iexact HC

theorem share_eq (c : Dev nD) (w : Fin cfg0.W) : (dats m ρ 0 c).share w = fullShare := by unfold Dat.share; split <;> rfl

/-! ## Entering and leaving -/

theorem start_intro (c : Dev nD) :
    iprop(Pipeline.unscopedRestP Pipeline.Prefetch.none cfg0.spec c (fun b => m ((c : Thread nD τ).loc b)) ∗ levAts levIx lev
        ∗ Pipeline.launchCred (fun d => debt (dues d)) c ∗ prngReg c (ρ c) ∗ ready (rows m) c)
      ⊢ |={Set.univ}=> iprop(start m c ∗ emp) := by
  iintro ⟨-, Hlev, Hcr, -, HG⟩
  ihave Hc := (launch_creds (F := F) c) $$ Hcr
  imodintro
  unfold start
  iframe HG Hc Hlev

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scratch c) from rfl, scopedRest0_eq]
  unfold scratch
  iintro ⟨Hs, -, Hr⟩
  iframe Hs Hr

theorem leave (c : Dev nD) :
    (dats m ρ 0 c).Φ (Fin.last cfg0.N) ⊢ iprop(unscopedSems0 c ∗ Pipeline.ownSems0 portSem c ∗ Pipeline.scopedRest cfg0.spec c) := by
  rw [show (dats m ρ 0 c).Φ (Fin.last cfg0.N) = iprop(scratch c ∗ quiet c) from rfl, scopedRest0_eq, ownSems0_eq, unscopedSems0_eq]
  unfold scratch quiet
  iintro ⟨Hr, Hb, H1, H2⟩
  iframe Hb H1 H2 Hr

/-- The pipeline's own semaphores are below every cell owed. -/
theorem waits (c : Dev nD) : (levAts levIx lev : sProp 𝕄) ⊢ Pipeline.cellsWaits cfgs (dats m ρ) () 0 c :=
  Pipeline.cellsWaits_intro cfgs (dats m ρ) () 0 c fun w s t => by
    have hlow : lev ((c : Thread nD τ), .dma ((cfg0.win w).sem s)) () = 0 := by
      unfold lev cellOfSem
      rw [show Function.partialInv cellSem (.dma ((cfg0.win w).sem s)) = none from
        dif_neg (by fin_cases w <;> fin_cases s <;> decide +kernel)]
      rfl
    rcases t with ⟨_ | _, ht⟩
    · refine may_wait c _ (dues c) fun e he => ?_
      rw [hlow]
      rcases List.mem_append.mp he with he | he
      · obtain ⟨p, -, rfl⟩ := List.mem_map.mp he
        exact ⟨rfl, by rw [lev_cell]; exact Nat.one_pos⟩
      · obtain ⟨j, -, rfl⟩ := List.mem_map.mp he
        exact ⟨rfl, by rw [lev_cell]; exact (show ∀ j : Fin 7, 0 < cellLevel (.inr (.inr j)) by decide) j⟩
    · exact may_wait c _ [] fun e he => absurd he List.not_mem_nil

/-! ## The run -/

set_option maxRecDepth 8000 in
/-- On the eight devices, for any float values, from any memory with every semaphore at zero: every weakly fair execution
    ends, with each array at what the pipeline's data say and every semaphore at zero. -/
theorem run_all : θ_run defs (onTc (τ := τ) (main (F := F))) (s₀ m ρ) (fun r =>
    (∀ c : Dev nD, ∀ w : Fin cfg0.W, r.2.mem ((cfg0.win w).arr.view.loc (c : Thread nD τ)) = (dats m ρ 0 c).arrAt w cfg0.N) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ Variants.none m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => debt (dues d)) (howed₀ := fun _ => rfl) (howedN := fun _ => rfl)
    (L := levIx) (lv := lev) (hL := levIx_of_ne) (hwaits := waits m ρ)
    (G := dealt (rows m)) (G' := ready (rows m)) (u₀ := u₀)
    (hu₀ := by
      unfold u₀
      iintro Hu
      ihave H := (ownU_pair _ _) $$ Hu
      icases H with ⟨HP, HX⟩
      imod (deal (rows m)) $$ HX with HG
      imodintro
      isplitl [HP] <;> iassumption)
    (hglob := glob (rows m))
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays end with -/

theorem rows_eq (c : Dev nD) : rows m c = m ((c : Thread nD τ).loc main_arg0) :=
  Memref.read_access_unit_zero (Elt F) main_arg0
    (show (fun a => (win0_0.index t0_0) a * main_arg0.ty.shape.size a) = fun _ => 0 from
      funext fun a => by fin_cases a <;> decide) (fun a => by fin_cases a <;> decide) _
theorem matrix_eq (c : Dev nD) : matrix m c = m ((c : Thread nD τ).loc main_arg1) :=
  Memref.read_access_unit_zero (Elt F) main_arg1
    (show (fun a => (win0_1.index t0_0) a * main_arg1.ty.shape.size a) = fun _ => 0 from
      funext fun a => by fin_cases a <;> decide) (fun a => by fin_cases a <;> decide) _

/-- What device `c`'s output array ends with, read off the memory at launch. -/
def product (c : Dev nD) : Vec F S4096x512 .f32 :=
  outVal (fun d => m ((d : Thread nD τ).loc main_arg0)) (m ((c : Thread nD τ).loc main_arg1))

/-- The output array is written back whole. -/
theorem out_eq (c : Dev nD) : (dats m ρ 0 c).arrAt (2 : Fin 3) cfg0.N = product m c := by
  have hw : ((cfg0.win 2).blk t0_0).view.read (Elt F) ((dats m ρ 0 c).arrAt (2 : Fin 3) cfg0.N) = (dats m ρ 0 c).flushed 2 t0_0 := by
    rw [show cfg0.N = t0_0.val + 1 from rfl, (dats m ρ 0 c).arrAt_succ (2 : Fin 3) t0_0, flush0_2, if_pos rfl]
    exact View.read_write_univ _ _
  have hf : (dats m ρ 0 c).flushed 2 t0_0 = product m c := by
    show (cfg0.win 2).cut _ (outVal (rows m) (matrix m c)) = _
    rw [show rows m = fun d : Dev nD => m ((d : Thread nD τ).loc main_arg0) from funext fun d => rows_eq m d, matrix_eq]
    rfl
  rw [hf] at hw
  exact (Memref.read_access_unit_zero (Elt F) main_v1
    (show (fun a => (win0_2.index t0_0) a * main_v1.ty.shape.size a) = fun _ => 0 from
      funext fun a => by fin_cases a <;> decide) (fun a => by fin_cases a <;> decide) _).symm.trans hw

/-- On the eight devices, for any float values, from any memory with every semaphore at zero: every weakly fair execution
    of the kernel ends, with both arguments as they were, every semaphore at zero, and each device's output the product. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = product m c) ∧ r.2.sem = fun _ => 0) :=
  (θ_run defs _ _).mono (fun _ h => ⟨fun c => ⟨(h.1 c 0).trans ((dats m ρ 0 c).arrAt_in (0 : Fin 3) rfl _),
    (h.1 c 1).trans ((dats m ρ 0 c).arrAt_in (1 : Fin 3) rfl _), (h.1 c 2).trans (out_eq m ρ c)⟩, h.2⟩) (run_all m ρ)

/-- The same without the product: the arguments as they were, every semaphore at zero. -/
theorem run_frame : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c).1, (h.1 c).2.1⟩, h.2⟩) (run_main m ρ)

end Cert.Cube

end
-- ==== Proof.Value.lean ====
/-
# The product, over the reals

Over the reals the change of format before the copies does nothing, so a device multiplies each device's rows of the left
matrix by the whole right matrix: entry by entry, that is the product of the whole matrices.
-/
module

public import proofs.«01_k».proof.Proof.Launch
public import proofs.«01_k».proof.Proof.Gen.ReferenceIdeal
public import Idealize.ShloMosaic.Lib.KernelVsHost
public import Idealize.ShloMosaic.Lib.StackMember
public import Idealize.ShloMosaic.Lib.ValueIdxCore
public import Idealize.ShloMosaic.Lib.Layout

@[expose] public section

noncomputable section

namespace Cert.Cube

open Cert.KernelIdeal Cert.KernelIdeal.Gen

open Idealize.ShloMosaic
open Idealize.ShloMosaic.ValueIdx
open Idealize.ShloMosaic.StackMember
open scoped BigOperators

/-- One block of the product: an entry is the sum of the products along the row and the column. -/
theorem block_product (x : Vec Ideal S512x256 .f32) (b : Vec Ideal S256x512 .f32) (r : Fin 512) (l : Fin 512) :
    k0_pay3 (k0_pay1 x) (k0_pay2 b) (ix2 r l) = ∑ k : Fin 256, x (ix2 r k) * b (ix2 k l) := by
  unfold k0_pay3 k0_pay1 k0_pay2
  dsimp only
  rw [matmul_zero_eq_dotGeneral, shapeCast_shapeCast, shapeCast_self, shapeCast_self, shapeCast_self]
  exact dotGeneral_plain_apply none (truncf .bf16 x bitsLt_bf16_f32 : FVec Ideal S512x256 .bf16) (truncf .bf16 b bitsLt_bf16_f32 : FVec Ideal S256x512 .bf16) r l

/-- The rows the devices hold are the left matrix's, block by block: a device's output is the reference's product. -/
theorem outVal_eq (a : Vec Ideal Cert.ReferenceIdeal.S4096x256 .f32) (b : Vec Ideal S256x512 .f32) :
    outVal (fun d : Dev nD => Layout.block ⟨2, ![512, 256]⟩ ⟨2, ![4096, 256]⟩ 0 8 d a) b
      = Host.dotGeneral (F := Ideal) (φ₁ := .f32) (φ₂ := .f32) Cert.ReferenceIdeal.dot_S4096x256_S256x512_S4096x512_1_0_0_1_n_n none a b := by
  funext i
  have href := dotGeneral_plain_apply (m := 4096) (n := 512) (φ₁ := .f32) (φ₂ := .f32) none a b (i 0) (i 1)
  refine Eq.trans ?_ (href.symm.trans (congrArg (Host.dotGeneral (F := Ideal) (φ₁ := .f32) (φ₂ := .f32)
    Cert.ReferenceIdeal.dot_S4096x256_S256x512_S4096x512_1_0_0_1_n_n none a b) (eq_ix2 (n0 := 4096) (n1 := 512) i).symm))
  unfold outVal
  refine (congrArg (k0_pay3 (k0_pay1 _) (k0_pay2 b)) (eq_ix2 (n0 := 512) (n1 := 512) (inBlock i))).trans ?_
  refine (block_product _ b (inBlock i 0) (inBlock i 1)).trans (Finset.sum_congr rfl fun k _ => ?_)
  refine congrArg₂ (· * ·) (congrArg a ?_) (congrArg b ?_)
  · funext d
    apply Fin.ext
    match d with
    | ⟨0, _⟩ => show (i 0).val / 512 * 512 + (i 0).val % 512 = (i 0).val; omega
    | ⟨1, _⟩ => rfl
  · funext d
    match d with
    | ⟨0, _⟩ => rfl
    | ⟨1, _⟩ => rfl

end Cert.Cube

end
-- ==== Proof.lean ====
/-
# The claims

The kernel's run is written once, over any float values (`Cert.Cube.run_main`): both frames are read off it, and over
the reals its result is the product (`Cert.Cube.outVal_eq`), which is the equation with the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel and its reading over the reals are one text: at bit patterns their body tables agree, -/
theorem bodies_eq : Cert.Kernel.defs₀ (F := Bits) = Cert.KernelIdeal.defs₀ (F := Bits) := by
  unfold Cert.Kernel.defs₀ Cert.KernelIdeal.defs₀
  congr 1
  funext l a
  match l, a with
  | 0, (t, s) => rfl
  | ⟨_ + 1, h⟩, _ => exact absurd h (Nat.not_lt.2 (Nat.le_add_left _ _))

/-- and so do the tables with each launch's own labels. -/
theorem tables_eq : Cert.Kernel.defs (F := Bits) = Cert.KernelIdeal.defs (F := Bits) :=
  congrArg (Pipeline.defs (Cert.Kernel.pcfgs (F := Bits))) bodies_eq

/-- The kernel's frame, read off its one run (`Cert.Cube.run_frame`) at bit patterns; -/
theorem frame_kernel : Cert.quiescent_Kernel := fun m ρ _ => by
  rw [tables_eq]
  exact Cert.Cube.run_frame (F := Bits) m ρ

/-- and over the reals. -/
theorem frame_kernelIdeal : Cert.quiescent_KernelIdeal := fun m ρ _ => Cert.Cube.run_frame (F := Ideal) m ρ

/-- The reference's frame: it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the reals the kernel and the reference compute the same array. -/
theorem same : Cert.algebraic_KernelIdeal_ReferenceIdeal := fun m ρ m' ρ' _ hargs =>
  ⟨Host.dotGeneral (F := Ideal) (φ₁ := .f32) (φ₂ := .f32) Cert.ReferenceIdeal.dot_S4096x256_S256x512_S4096x512_1_0_0_1_n_n none
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨(h.1 c).2.2.trans (by
        unfold Cert.Cube.product
        rw [(hargs c).2, funext fun d => (hargs d).1]
        exact Cert.Cube.outVal_eq _ _), (h.1 c).1, (h.1 c).2.1⟩) (Cert.Cube.run_main (F := Ideal) m ρ),
    (θ_run Cert.ReferenceIdeal.defs _ _).mono (fun _ h => h 0) (Cert.ReferenceIdeal.Value.run (F := Ideal) m' ρ')⟩

/-- All five claims. -/
theorem claim : Cert.Claim := ⟨Cert.Kernel.Gen.facts, Cert.KernelIdeal.Gen.facts, Cert.ReferenceIdeal.Gen.facts,
  frame_kernel, frame_kernelIdeal, frame_referenceIdeal, trivial, same⟩

end Cert.Proof

end
